-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29_0) = v0 c
          ∧ r.2.mem ((c.tc : Thread Cert.ReferenceIdeal.nD Cert.ReferenceIdeal.τ).loc Cert.ReferenceIdeal.main_v29_1) = v1 c
          ∧ r.2.mem ((c.tc : Thread Cert.ReferenceIdeal.nD Cert.ReferenceIdeal.τ).loc Cert.ReferenceIdeal.main_v29_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S6x3072x2048 : Shape := ⟨3, ![6, 3072, 2048]⟩
abbrev S2048x16384 : Shape := ⟨2, ![2048, 16384]⟩
abbrev S16x128 : Shape := ⟨2, ![16, 128]⟩
abbrev S16384 : Shape := ⟨1, ![16384]⟩
abbrev S18432x16x128 : Shape := ⟨3, ![18432, 16, 128]⟩
abbrev S_ : Shape := ⟨0, ![]⟩
abbrev S18432x16 : Shape := ⟨2, ![18432, 16]⟩

class Facts : Prop where
  bitsLt_bf16_f32 : FTy.bits .bf16 < FTy.bits .f32
  shapeCasts_S6x3072x2048_S18432x16x128 : S6x3072x2048.ShapeCasts S18432x16x128
  reducesTo_S18432x16x128_S18432x16_d2 : S18432x16x128.ReducesTo [2] S18432x16
  h_S_ : 0 < S_.numel
  bcast_S_S18432x16 : S_.BroadcastsInDim S18432x16 (![] : Fin 0 → Fin S18432x16.rank)

variable [Facts]

def fn {F : FTy → Type} [FloatOps F] (main_arg0 : FVec F S6x3072x2048 .bf16) (main_arg1 : FVec F S2048x16384 .fp8e4m3) (main_arg2 : FVec F S16x128 .f32) (main_arg3 : FVec F S16384 .f32) : IVec S18432x16 1 :=
  let main_v0 : FVec F S6x3072x2048 .f32 := (extf .f32 · bitsLt_bf16_f32) main_arg0
  let main_v1 : FVec F S18432x16x128 .f32 := shapeCast S18432x16x128 main_v0 shapeCasts_S6x3072x2048_S18432x16x128
  let main_v2 : FVec F S18432x16x128 .f32 := Host.absf main_v1
  let main_cst : FVec F S_ .f32 := constant S_ .f32 0xFF800000#32
  let main_v3 : FVec F S18432x16 .f32 := (fun x v => Host.reduce FloatOps.maximumf x v reducesTo_S18432x16x128_S18432x16_d2 h_S_) main_v2 main_cst
  let main_cst_0 : FVec F S_ .f32 := constant S_ .f32 0x00000000#32
  let main_v4 : FVec F S18432x16 .f32 := broadcastInDim S18432x16 ![] bcast_S_S18432x16 main_cst_0
  let main_v5 : IVec S18432x16 1 := cmpf .oeq main_v3 main_v4
  let main_cst_1 : FVec F S_ .f32 := constant S_ .f32 0x04600000#32
  let main_v6 : FVec F S18432x16 .f32 := broadcastInDim S18432x16 ![] bcast_S_S18432x16 main_cst_1
  let main_v7 : IVec S18432x16 1 := cmpf .oge main_v3 main_v6
  let main_cst_2 : FVec F S_ .f32 := constant S_ .f32 0x7F7F0000#32
  let main_v8 : FVec F S18432x16 .f32 := broadcastInDim S18432x16 ![] bcast_S_S18432x16 main_cst_2
  let main_v9 : IVec S18432x16 1 := cmpf .ole main_v3 main_v8
  let main_v10 : IVec S18432x16 1 := andi main_v7 main_v9
  let main_v11 : IVec S18432x16 1 := ori main_v5 main_v10
  main_v11
-- ==== Kernel.lean ====
abbrev S6x3072x2048 : Shape := ⟨3, ![6, 3072, 2048]⟩
abbrev S2048x16384 : Shape := ⟨2, ![2048, 16384]⟩
abbrev S16x128 : Shape := ⟨2, ![16, 128]⟩
abbrev S16384 : Shape := ⟨1, ![16384]⟩
abbrev S16x128x128 : Shape := ⟨3, ![16, 128, 128]⟩
abbrev S16x16384 : Shape := ⟨2, ![16, 16384]⟩
abbrev S18432x2048 : Shape := ⟨2, ![18432, 2048]⟩
abbrev S1x16384 : Shape := ⟨2, ![1, 16384]⟩
abbrev S18432x16384 : Shape := ⟨2, ![18432, 16384]⟩
abbrev S18432x16 : Shape := ⟨2, ![18432, 16]⟩
abbrev S512x2048 : Shape := ⟨2, ![512, 2048]⟩
abbrev S2048x512 : Shape := ⟨2, ![2048, 512]⟩
abbrev S16x512 : Shape := ⟨2, ![16, 512]⟩
abbrev S1x512 : Shape := ⟨2, ![1, 512]⟩
abbrev S512x512 : Shape := ⟨2, ![512, 512]⟩
abbrev S512x16 : Shape := ⟨2, ![512, 16]⟩
abbrev S512x128 : Shape := ⟨2, ![512, 128]⟩
abbrev S512 : Shape := ⟨1, ![512]⟩
abbrev S512x1 : Shape := ⟨2, ![512, 1]⟩
abbrev S128x512 : Shape := ⟨2, ![128, 512]⟩

abbrev nBuf : Space → Nat
  | .hbm => 11
  | .vmem => 15
  | .smem => 0
  | _ => 0

abbrev bufTy : (tb : Table) → Fin (tcTables nBuf tb) → BufTy
  | .hbm, ⟨0, _⟩ => ⟨S6x3072x2048, .bf16⟩
  | .hbm, ⟨1, _⟩ => ⟨S2048x16384, .fp8e4m3⟩
  | .hbm, ⟨2, _⟩ => ⟨S16x128, .f32⟩
  | .hbm, ⟨3, _⟩ => ⟨S16384, .f32⟩
  | .hbm, ⟨4, _⟩ => ⟨S16x128x128, .f32⟩
  | .hbm, ⟨5, _⟩ => ⟨S16x16384, .f32⟩
  | .hbm, ⟨6, _⟩ => ⟨S18432x2048, .bf16⟩
  | .hbm, ⟨7, _⟩ => ⟨S1x16384, .f32⟩
  | .hbm, ⟨8, _⟩ => ⟨S18432x16384, .bf16⟩
  | .hbm, ⟨9, _⟩ => ⟨S18432x2048, .fp8e4m3⟩
  | .hbm, ⟨10, _⟩ => ⟨S18432x16, .f32⟩
  | .local _ .vmem, ⟨0, _⟩ => ⟨S512x2048, .bf16⟩
  | .local _ .vmem, ⟨1, _⟩ => ⟨S512x2048, .bf16⟩
  | .local _ .vmem, ⟨2, _⟩ => ⟨S2048x512, .fp8e4m3⟩
  | .local _ .vmem, ⟨3, _⟩ => ⟨S2048x512, .fp8e4m3⟩
  | .local _ .vmem, ⟨4, _⟩ => ⟨S16x512, .f32⟩
  | .local _ .vmem, ⟨5, _⟩ => ⟨S16x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | .local _ .vmem, ⟨10, _⟩ => ⟨S512x2048, .fp8e4m3⟩
  | .local _ .vmem, ⟨11, _⟩ => ⟨S512x2048, .fp8e4m3⟩
  | .local _ .vmem, ⟨12, _⟩ => ⟨S512x16, .f32⟩
  | .local _ .vmem, ⟨13, _⟩ => ⟨S512x16, .f32⟩
  | .local _ .vmem, ⟨14, _⟩ => ⟨S512x512, .f32⟩
  | _, _ => ⟨S6x3072x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![36, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S6x3072x2048 : Shape := ⟨3, ![6, 3072, 2048]⟩
abbrev S2048x16384 : Shape := ⟨2, ![2048, 16384]⟩
abbrev S16x128 : Shape := ⟨2, ![16, 128]⟩
abbrev S16384 : Shape := ⟨1, ![16384]⟩
abbrev S18432x16x128 : Shape := ⟨3, ![18432, 16, 128]⟩
abbrev S_ : Shape := ⟨0, ![]⟩
abbrev S18432x16 : Shape := ⟨2, ![18432, 16]⟩
abbrev S18432x16x1 : Shape := ⟨3, ![18432, 16, 1]⟩
abbrev S16x128x128 : Shape := ⟨3, ![16, 128, 128]⟩
abbrev S16x16384 : Shape := ⟨2, ![16, 16384]⟩
abbrev S1x16384 : Shape := ⟨2, ![1, 16384]⟩
abbrev S18432x16384 : Shape := ⟨2, ![18432, 16384]⟩
abbrev S18432x2048 : Shape := ⟨2, ![18432, 2048]⟩
abbrev S16x128x16384 : Shape := ⟨3, ![16, 128, 16384]⟩
abbrev S16x18432x16384 : Shape := ⟨3, ![16, 18432, 16384]⟩
abbrev S16x18432 : Shape := ⟨2, ![16, 18432]⟩
abbrev S16x18432x1 : Shape := ⟨3, ![16, 18432, 1]⟩
abbrev S16x1x16384 : Shape := ⟨3, ![16, 1, 16384]⟩

abbrev nBuf : Space → Nat
  | .hbm => 53
  | .vmem => 8
  | .smem => 0
  | _ => 0

abbrev bufTy : (tb : Table) → Fin (tcTables nBuf tb) → BufTy
  | .hbm, ⟨0, _⟩ => ⟨S6x3072x2048, .bf16⟩
  | .hbm, ⟨1, _⟩ => ⟨S2048x16384, .fp8e4m3⟩
  | .hbm, ⟨2, _⟩ => ⟨S16x128, .f32⟩
  | .hbm, ⟨3, _⟩ => ⟨S16384, .f32⟩
  | .hbm, ⟨4, _⟩ => ⟨S6x3072x2048, .f32⟩
  | .hbm, ⟨5, _⟩ => ⟨S18432x16x128, .f32⟩
  | .hbm, ⟨6, _⟩ => ⟨S18432x16x128, .f32⟩
  | .hbm, ⟨7, _⟩ => ⟨S_, .f32⟩
  | .hbm, ⟨8, _⟩ => ⟨S18432x16, .f32⟩
  | .hbm, ⟨9, _⟩ => ⟨S_, .f32⟩
  | .hbm, ⟨10, _⟩ => ⟨S18432x16, .f32⟩
  | .hbm, ⟨11, _⟩ => ⟨S18432x16, .f32⟩
  | .hbm, ⟨12, _⟩ => ⟨S18432x16, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S18432x16, .f32⟩
  | .hbm, ⟨17, _⟩ => ⟨S18432x16, .f32⟩
  | .hbm, ⟨18, _⟩ => ⟨S18432x16, .f32⟩
  | .hbm, ⟨19, _⟩ => ⟨S_, .f32⟩
  | .hbm, ⟨20, _⟩ => ⟨S18432x16, .f32⟩
  | .hbm, ⟨21, _⟩ => ⟨S18432x16, .f32⟩
  | .hbm, ⟨22, _⟩ => ⟨S_, .f32⟩
  | .hbm, ⟨23, _⟩ => ⟨S18432x16, .f32⟩
  | .hbm, ⟨24, _⟩ => ⟨S18432x16, .i1⟩
  | .hbm, ⟨25, _⟩ => ⟨S_, .f32⟩
  | .hbm, ⟨26, _⟩ => ⟨S_, .f32⟩
  | .hbm, ⟨27, _⟩ => ⟨S18432x16, .f32⟩
  | .hbm, ⟨28, _⟩ => ⟨S18432x16, .f32⟩
  | .hbm, ⟨29, _⟩ => ⟨S_, .f32⟩
  | .hbm, ⟨30, _⟩ => ⟨S18432x16, .f32⟩
  | .hbm, ⟨31, _⟩ => ⟨S18432x16, .f32⟩
  | .hbm, ⟨32, _⟩ => ⟨S18432x16, .f32⟩
  | .hbm, ⟨33, _⟩ => ⟨S_, .f32⟩
  | .hbm, ⟨34, _⟩ => ⟨S18432x16, .f32⟩
  | .hbm, ⟨35, _⟩ => ⟨S18432x16, .f32⟩
  | .hbm, ⟨36, _⟩ => ⟨S18432x16x1, .f32⟩
  | .hbm, ⟨37, _⟩ => ⟨S18432x16x128, .f32⟩
  | .hbm, ⟨38, _⟩ => ⟨S18432x16x128, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S18432x16x128, .f32⟩
  | .hbm, ⟨43, _⟩ => ⟨S18432x16x128, .f32⟩
  | .hbm, ⟨44, _⟩ => ⟨S_, .f32⟩
  | .hbm, ⟨45, _⟩ => ⟨S18432x16x128, .f32⟩
  | .hbm, ⟨46, _⟩ => ⟨S18432x16x128, .f32⟩
  | .hbm, ⟨47, _⟩ => ⟨S16x128x128, .f32⟩
  | .hbm, ⟨48, _⟩ => ⟨S16x16384, .f32⟩
  | .hbm, ⟨49, _⟩ => ⟨S1x16384, .f32⟩
  | .hbm, ⟨50, _⟩ => ⟨S18432x16384, .bf16⟩
  | .hbm, ⟨51, _⟩ => ⟨S18432x2048, .fp8e4m3⟩
  | .hbm, ⟨52, _⟩ => ⟨S18432x16, .f32⟩
  | .local _ .vmem, ⟨0, _⟩ => ⟨S18432x16x128, .f32⟩
  | .local _ .vmem, ⟨1, _⟩ => ⟨S18432x16, .f32⟩
  | .local _ .vmem, ⟨2, _⟩ => ⟨S2048x16384, .fp8e4m3⟩
  | .local _ .vmem, ⟨3, _⟩ => ⟨S16x16384, .f32⟩
  | .local _ .vmem, ⟨4, _⟩ => ⟨S1x16384, .f32⟩
  | .local _ .vmem, ⟨5, _⟩ => ⟨S18432x16384, .bf16⟩
  | .local _ .vmem, ⟨6, _⟩ => ⟨S18432x2048, .fp8e4m3⟩
  | .local _ .vmem, ⟨7, _⟩ => ⟨S18432x16, .f32⟩
  | _, _ => ⟨S6x3072x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_cst_8 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29_0 : Ref sig .tc := ⟨.hbm, 50, rfl⟩
abbrev main_v29_1 : Ref sig .tc := ⟨.hbm, 51, rfl⟩
abbrev main_v29_2 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S18432x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18432x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x16384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S18432x16384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S18432x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S18432x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Setup.lean ====
/-
  What the two runs of the kernel's body share: when the body quantises (the points whose second coordinate is 0, which
  are the multiples of 32), that no window is ever idle, and the buffers the body is handed at a point.
-/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 32) — by arithmetic of the point. -/
theorem hcond0_0 : ∀ t : Fin cfg0.N, cond0_0 (grid0.coords t) ↔ t.val % 32 = 0 :=
  (fun t => by
    have ht : t.val < 1152 := Nat.lt_of_lt_of_eq t.isLt N_0
    have e0 : (grid0.coords t 0).val = t.val / 32 % 36 := Pipeline.Grid.coords_val t 0 (by decide) rfl
    have e1 : (grid0.coords t 1).val = t.val / 1 % 32 := Pipeline.Grid.coords_val t 1 (by decide) rfl
    simp only [cond0_0, k0_cond1, e0, e1]
    word_cmp
   : ∀ t : Fin grid0.N, cond0_0 (grid0.coords t) ↔ t.val % 32 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x16 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S512x512 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Run

end
-- ==== Proof.RunLater.lean ====
/-
  The kernel's body at a point that does not quantise.
-/
module

public import proofs.«01_k».proof.Proof.Setup

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point whose second coordinate is not 0: the codes `x5` and the scales `x6` are read and left as they
    are, and the block of `y` ends at the pieces the body stores into it (found by running the body). -/
def runLater (c : Dev nD) (i : grid0.Coords) (arg2 : Memref sig .tc .vmem S512x2048 .bf16) (harg2 : arg2.IsWhole) (arg3 : Memref sig .tc .vmem S2048x512 .fp8e4m3) (harg3 : arg3.IsWhole) (arg4 : Memref sig .tc .vmem S16x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S512x512 .f32) (harg9 : arg9.IsWhole) (hc0 : ¬cond0_0 i)
    (x0 : Vec F S512x2048 .bf16) (x1 : Vec F S2048x512 .fp8e4m3) (x2 : Vec F S16x512 .f32) (x3 : Vec F S1x512 .f32) (x5 : Vec F S512x2048 .fp8e4m3) (x6 : Vec F S512x16 .f32) :
      { L4 : List (View.Piece (Elt F) S512x512 .bf16) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare x6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare x5 ∗ owns (c : Thread nD τ) arg8 fullShare x6 ∗ (∃ d, owns (c : Thread nD τ) arg9 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9) K } := by
    refine ⟨?_, fun E K => ?run⟩
    case run =>
      simp only [cc0__body_eq_skeleton]; unfold cc0__body_skel
      simp only [k0_part8_eq_skeleton, k0_part9_eq_skeleton, k0_part10_eq_skeleton, k0_part11_eq_skeleton, k0_part12_eq_skeleton, k0_part13_eq_skeleton, k0_part14_eq_skeleton, k0_part15_eq_skeleton]
      unfold owns
      iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, Hk⟩
      obtain rfl := harg2.eq_unread hf0; obtain rfl := harg3.eq_unread hf1; obtain rfl := harg4.eq_unread hf2; obtain rfl := harg5.eq_unread hf3; obtain rfl := harg7.eq_unread hf5; obtain rfl := harg8.eq_unread hf6
      sl_exec (disch := first | sl_exact hc0)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; iexact H4
      isplitl [H5]
      · iexists _; isplitr; · ipureintro; exact harg7.read_unread _
        iexact H5
      isplitl [H6]
      · iexists _; isplitr; · ipureintro; exact harg8.read_unread _
        iexact H6
      iexists _, _; isplitr; swap; · iexact HS0
      ipureintro; rfl

end Cert.KernelIdeal.Run

end
-- ==== Proof.RunFirst.lean ====
/-
  The kernel's body at a point that quantises.
-/
module

public import proofs.«01_k».proof.Proof.RunLater

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point whose second coordinate is 0: it stores the scales (one piece) and the codes (sixteen pieces,
    one per group) of the block `x0`, then the block of `y`; all three end at the pieces found by running the body. -/
def runFirst (c : Dev nD) (i : grid0.Coords) (arg2 : Memref sig .tc .vmem S512x2048 .bf16) (harg2 : arg2.IsWhole) (arg3 : Memref sig .tc .vmem S2048x512 .fp8e4m3) (harg3 : arg3.IsWhole) (arg4 : Memref sig .tc .vmem S16x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S512x512 .f32) (harg9 : arg9.IsWhole) (hc0 : cond0_0 i)
    (x0 : Vec F S512x2048 .bf16) (x1 : Vec F S2048x512 .fp8e4m3) (x2 : Vec F S16x512 .f32) (x3 : Vec F S1x512 .f32) :
      Σ' (L4 : List (View.Piece (Elt F) S512x512 .bf16)) (L5 : List (View.Piece (Elt F) S512x2048 .fp8e4m3)), { L6 : List (View.Piece (Elt F) S512x16 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ d, owns (c : Thread nD τ) arg9 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9) K } := by
    refine ⟨?_, ?_, ?_, fun E K => ?run⟩
    case run =>
      simp only [cc0__body_eq_skeleton]; unfold cc0__body_skel
      simp only [k0_part8_eq_skeleton, k0_part1_eq_skeleton, k0_part2_eq_skeleton, k0_part3_eq_skeleton, k0_part4_eq_skeleton, k0_part5_eq_skeleton, k0_part6_eq_skeleton, k0_part7_eq_skeleton, k0_part9_eq_skeleton, k0_part10_eq_skeleton, k0_part11_eq_skeleton, k0_part12_eq_skeleton, k0_part13_eq_skeleton, k0_part14_eq_skeleton, k0_part15_eq_skeleton]
      unfold owns
      iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, Hk⟩
      obtain rfl := harg2.eq_unread hf0; obtain rfl := harg3.eq_unread hf1; obtain rfl := harg4.eq_unread hf2; obtain rfl := harg5.eq_unread hf3
      sl_exec (disch := first | sl_exact hc0)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; iexact H4
      isplitl [H5]
      · iexists _; iexact H5
      isplitl [H6]
      · iexists _; iexact H6
      iexists _, _; isplitr; swap; · iexact HS0
      ipureintro; rfl

end Cert.KernelIdeal.Run

end
-- ==== Proof.Block.lean ====
/-
  What one block of the kernel computes.

  From the block `x0` of 512 tokens: the largest magnitude of each group of 128 entries (`amaxB`), the exponent of its
  448th (`expB`, the binary search), the scales `2^e` (`scalesB`), their inverses (`invB`) and the codes (`codesB`).
  From codes `q`, scales `s`, a 512-column block of the weights `w`, their scales `ws` and the bias `b`: the block of
  the result (`yB`), one product per group added up in the order of the groups.
-/
module

public import proofs.«01_k».proof.Proof.RunFirst
public import Idealize.ShloMosaic.Lib.Pipeline.Value
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

variable {F : FTy → Type} [FloatOps F]

theorem hz : (![0, 0] : Fin 2 → Nat) = fun _ => 0 := funext fun a => by fin_cases a <;> rfl

/-! ## The quantising part -/

/-- The largest magnitude of each group of 128 entries, one column per group. -/
def amaxB (x0 : Vec F S512x2048 .bf16) : FVec F S512x16 .f32 :=
  k0_pay15 (k0_pay3 x0) (k0_pay4 x0) (k0_pay5 x0) (k0_pay6 x0) (k0_pay7 x0) (k0_pay8 x0) (k0_pay9 x0) (k0_pay10 x0) (k0_pay11 x0) (k0_pay12 x0) (k0_pay13 x0) (k0_pay14 x0)

/-- Its 448th. -/
def quotB (x0 : Vec F S512x2048 .bf16) : FVec F S512x16 .f32 :=
  k0_pay16 (k0_pay3 x0) (k0_pay4 x0) (k0_pay5 x0) (k0_pay6 x0) (k0_pay7 x0) (k0_pay8 x0) (k0_pay9 x0) (k0_pay10 x0) (k0_pay11 x0) (k0_pay12 x0) (k0_pay13 x0) (k0_pay14 x0)

/-- The exponent found by the binary search. -/
def expB (x0 : Vec F S512x2048 .bf16) : IVec S512x16 32 :=
  k0_pay19 (quotB x0) (k0_pay17 (k0_pay3 x0) (k0_pay4 x0) (k0_pay5 x0) (k0_pay6 x0) (k0_pay7 x0) (k0_pay8 x0) (k0_pay9 x0) (k0_pay10 x0) (k0_pay11 x0) (k0_pay12 x0) (k0_pay13 x0) (k0_pay14 x0)) k0_pay18

/-- Where a group is all zeros. -/
def zeroB (x0 : Vec F S512x2048 .bf16) : IVec S512x16 1 := k0_pay20 (amaxB x0)

/-- The scales: two to the exponent. -/
def scalesB (x0 : Vec F S512x2048 .bf16) : FVec F S512x16 .f32 := k0_pay22 (expB x0) (zeroB x0) 0#32

/-- The inverses of the scales. -/
def invB (x0 : Vec F S512x2048 .bf16) : FVec F S512x16 .f32 := k0_pay23 (expB x0) (zeroB x0) 0#32

/-- The codes: each entry times the inverse of its group's scale, clipped to ±448 and rounded to fp8. -/
def codesB (x0 : Vec F S512x2048 .bf16) : FVec F S512x2048 .fp8e4m3 :=
  truncf .fp8e4m3 (minimumf (broadcast S512x2048 (Scalar.ofBits .f32 0x43E00000#32))
    (maximumf (broadcast S512x2048 (Scalar.ofBits .f32 0xC3E00000#32))
      (mulf (k0_pay3 x0) fun p => invB x0 (ix2 (p 0) ⟨(p 1).val / 128, by have := (p 1).isLt; change _ < 2048 at this; change _ < 16; omega⟩))))
    bitsLt_fp8e4m3_f32

/-! ## The multiplying part -/

/-- One group's product, scaled: columns `o … o+127` of the codes times rows `o … o+127` of the weights, times the
    outer product of column `g` of the scales and row `g` of the weights' scales. -/
def prodAt (q : Vec F S512x2048 .fp8e4m3) (w : Vec F S2048x512 .fp8e4m3) (s : Vec F S512x16 .f32) (ws : Vec F S16x512 .f32)
    (o g : Nat) (h1 : ∀ a, (![0, o] : Fin 2 → Nat) a + S512x128.size a ≤ S512x2048.size a)
    (h2 : ∀ a, (![o, 0] : Fin 2 → Nat) a + S128x512.size a ≤ S2048x512.size a)
    (h3 : ∀ a, (![0, g] : Fin 2 → Nat) a + S512x1.size a ≤ S512x16.size a)
    (h4 : ∀ a, (![g, 0] : Fin 2 → Nat) a + S1x512.size a ≤ S16x512.size a) : FVec F S512x512 .f32 :=
  mulf (matmul dot_S512x128_S128x512_S512x512_1_0_0_1_n_n none
      (View.ld q (Rect.unit (s := S512x2048) ![0, o] S512x128.size h1)) (View.ld w (Rect.unit (s := S2048x512) ![o, 0] S128x512.size h2))
      (constant S512x512 .f32 0x00000000#32))
    (mulf (broadcastTo S512x512 (View.ld s (Rect.unit (s := S512x16) ![0, g] S512x1.size h3)) broadcasts_S512x1_S512x512)
      (broadcastTo S512x512 (View.ld ws (Rect.unit (s := S16x512) ![g, 0] S1x512.size h4)) broadcasts_S1x512_S512x512))

/-- The sixteen scaled products added up in order. -/
def accB (q : Vec F S512x2048 .fp8e4m3) (w : Vec F S2048x512 .fp8e4m3) (s : Vec F S512x16 .f32) (ws : Vec F S16x512 .f32) :
    FVec F S512x512 .f32 :=
  (addf (addf (addf (addf (addf (addf (addf (addf (addf (addf (addf (addf (addf (addf (addf (prodAt q w s ws 0 0 inb_S512x2048_S512x128_0_0 inb_S2048x512_S128x512_0_0 inb_S512x16_S512x1_0_0 inb_S16x512_S1x512_0_0)
    (prodAt q w s ws 128 1 inb_S512x2048_S512x128_0_128 inb_S2048x512_S128x512_128_0 inb_S512x16_S512x1_0_1 inb_S16x512_S1x512_1_0))
    (prodAt q w s ws 256 2 inb_S512x2048_S512x128_0_256 inb_S2048x512_S128x512_256_0 inb_S512x16_S512x1_0_2 inb_S16x512_S1x512_2_0))
    (prodAt q w s ws 384 3 inb_S512x2048_S512x128_0_384 inb_S2048x512_S128x512_384_0 inb_S512x16_S512x1_0_3 inb_S16x512_S1x512_3_0))
    (prodAt q w s ws 512 4 inb_S512x2048_S512x128_0_512 inb_S2048x512_S128x512_512_0 inb_S512x16_S512x1_0_4 inb_S16x512_S1x512_4_0))
    (prodAt q w s ws 640 5 inb_S512x2048_S512x128_0_640 inb_S2048x512_S128x512_640_0 inb_S512x16_S512x1_0_5 inb_S16x512_S1x512_5_0))
    (prodAt q w s ws 768 6 inb_S512x2048_S512x128_0_768 inb_S2048x512_S128x512_768_0 inb_S512x16_S512x1_0_6 inb_S16x512_S1x512_6_0))
    (prodAt q w s ws 896 7 inb_S512x2048_S512x128_0_896 inb_S2048x512_S128x512_896_0 inb_S512x16_S512x1_0_7 inb_S16x512_S1x512_7_0))
    (prodAt q w s ws 1024 8 inb_S512x2048_S512x128_0_1024 inb_S2048x512_S128x512_1024_0 inb_S512x16_S512x1_0_8 inb_S16x512_S1x512_8_0))
    (prodAt q w s ws 1152 9 inb_S512x2048_S512x128_0_1152 inb_S2048x512_S128x512_1152_0 inb_S512x16_S512x1_0_9 inb_S16x512_S1x512_9_0))
    (prodAt q w s ws 1280 10 inb_S512x2048_S512x128_0_1280 inb_S2048x512_S128x512_1280_0 inb_S512x16_S512x1_0_10 inb_S16x512_S1x512_10_0))
    (prodAt q w s ws 1408 11 inb_S512x2048_S512x128_0_1408 inb_S2048x512_S128x512_1408_0 inb_S512x16_S512x1_0_11 inb_S16x512_S1x512_11_0))
    (prodAt q w s ws 1536 12 inb_S512x2048_S512x128_0_1536 inb_S2048x512_S128x512_1536_0 inb_S512x16_S512x1_0_12 inb_S16x512_S1x512_12_0))
    (prodAt q w s ws 1664 13 inb_S512x2048_S512x128_0_1664 inb_S2048x512_S128x512_1664_0 inb_S512x16_S512x1_0_13 inb_S16x512_S1x512_13_0))
    (prodAt q w s ws 1792 14 inb_S512x2048_S512x128_0_1792 inb_S2048x512_S128x512_1792_0 inb_S512x16_S512x1_0_14 inb_S16x512_S1x512_14_0))
    (prodAt q w s ws 1920 15 inb_S512x2048_S512x128_0_1920 inb_S2048x512_S128x512_1920_0 inb_S512x16_S512x1_0_15 inb_S16x512_S1x512_15_0))

/-- The block of the result: the sum plus the bias, rounded to bf16. -/
def yB (q : Vec F S512x2048 .fp8e4m3) (w : Vec F S2048x512 .fp8e4m3) (s : Vec F S512x16 .f32) (ws : Vec F S16x512 .f32)
    (b : Vec F S1x512 .f32) : FVec F S512x512 .bf16 :=
  truncf .bf16 (addf (accB q w s ws) (broadcastTo S512x512 b broadcasts_S1x512_S512x512)) bitsLt_bf16_f32

end Cert.KernelIdeal.Run

end
-- ==== Proof.BlockValue.lean ====
/-
  The blocks that running the body leaves, recognised: the sixteen stored pieces of codes are `codesB`, the stored scales
  `scalesB`, and the stored block of the result is `yB` of the codes and the scales in the buffers.
-/
module

public import proofs.«01_k».proof.Proof.Block
public import Idealize.ShloMosaic.Lib.Pipeline.Value
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

variable {F : FTy → Type} [FloatOps F]

/-- One stored piece of codes — columns `o … o+127` of the block times column `g` of the inverses, clipped and rounded —
    is `codesB` at the columns it is stored to. -/
theorem piece_eq (x0 : Vec F S512x2048 .bf16) (o g : Nat) (hog : o = 128 * g) (hg : g < 16)
    (h1 : ∀ a, (![0, o] : Fin 2 → Nat) a + S512x128.size a ≤ S512x2048.size a)
    (hs : S512x2048.Slices ![0, o] S512x128) (hs' : S512x16.Slices ![0, g] S512x1) (x : S512x128.Idx) :
    truncf (F := F) .fp8e4m3 (minimumf (broadcast S512x128 (Scalar.ofBits .f32 0x43E00000#32))
      (maximumf (broadcast S512x128 (Scalar.ofBits .f32 0xC3E00000#32))
        (mulf (extractStridedSlice S512x128 ![0, o] (k0_pay3 x0) hs)
          (broadcastTo S512x128 (extractStridedSlice S512x1 ![0, g] (invB x0) hs') broadcasts_S512x1_S512x128))))
      bitsLt_fp8e4m3_f32 x
    = codesB x0 ((Rect.unit (s := S512x2048) ![0, o] S512x128.size h1).emb x) := by
  have hx1 : (x 1).val < 128 := (x 1).isLt
  unfold codesB
  generalize k0_pay3 x0 = v
  generalize invB x0 = iv
  refine congrArg (fun z : F .f32 => FloatOps.truncf .fp8e4m3 bitsLt_fp8e4m3_f32 z) (congrArg (FloatOps.minimumf _) (congrArg (FloatOps.maximumf _) (congrArg₂ FloatOps.mulf ?_ ?_)))
  · refine congrArg v (funext fun a => ?_)
    fin_cases a <;> refine Fin.ext ?_ <;> simp [Rect.emb, LoadRect.idx, Rect.unit]
  · refine congrArg iv (funext fun a => ?_)
    fin_cases a <;> refine Fin.ext ?_
    · simp [Rect.emb, LoadRect.idx, Rect.unit]
    · simp [Rect.emb, LoadRect.idx, Rect.unit]; omega

/-- The sixteen pieces of codes as the body stores them, last first. -/
abbrev codePieces (x0 : Vec F S512x2048 .bf16) : List (View.Piece (Elt F) S512x2048 .fp8e4m3) :=
    [⟨Rect.unit (s := S512x2048) ![0, 1920] S512x128.size inb_S512x2048_S512x128_0_1920, k0_pay47 (k0_pay3 x0) (invB x0)⟩,
     ⟨Rect.unit (s := S512x2048) ![0, 1792] S512x128.size inb_S512x2048_S512x128_0_1792, k0_pay46 (k0_pay44 (k0_pay3 x0) (invB x0)) (FloatOps.ofBits FTy.f32 0x43E00000#32) k0_pay45⟩,
     ⟨Rect.unit (s := S512x2048) ![0, 1664] S512x128.size inb_S512x2048_S512x128_0_1664, k0_pay43 (k0_pay3 x0) (invB x0)⟩,
     ⟨Rect.unit (s := S512x2048) ![0, 1536] S512x128.size inb_S512x2048_S512x128_0_1536, k0_pay42 (k0_pay3 x0) (invB x0)⟩,
     ⟨Rect.unit (s := S512x2048) ![0, 1408] S512x128.size inb_S512x2048_S512x128_0_1408, k0_pay41 (k0_pay3 x0) (invB x0)⟩,
     ⟨Rect.unit (s := S512x2048) ![0, 1280] S512x128.size inb_S512x2048_S512x128_0_1280, k0_pay40 (k0_pay38 (k0_pay3 x0) (invB x0)) (FloatOps.ofBits FTy.f32 0x43E00000#32) k0_pay39⟩,
     ⟨Rect.unit (s := S512x2048) ![0, 1152] S512x128.size inb_S512x2048_S512x128_0_1152, k0_pay37 (k0_pay3 x0) (invB x0)⟩,
     ⟨Rect.unit (s := S512x2048) ![0, 1024] S512x128.size inb_S512x2048_S512x128_0_1024, k0_pay36 (k0_pay3 x0) (invB x0)⟩,
     ⟨Rect.unit (s := S512x2048) ![0, 896] S512x128.size inb_S512x2048_S512x128_0_896, k0_pay35 (k0_pay3 x0) (invB x0)⟩,
     ⟨Rect.unit (s := S512x2048) ![0, 768] S512x128.size inb_S512x2048_S512x128_0_768, k0_pay34 (k0_pay32 (k0_pay3 x0) (invB x0)) (FloatOps.ofBits FTy.f32 0x43E00000#32) k0_pay33⟩,
     ⟨Rect.unit (s := S512x2048) ![0, 640] S512x128.size inb_S512x2048_S512x128_0_640, k0_pay31 (k0_pay3 x0) (invB x0)⟩,
     ⟨Rect.unit (s := S512x2048) ![0, 512] S512x128.size inb_S512x2048_S512x128_0_512, k0_pay30 (k0_pay3 x0) (invB x0)⟩,
     ⟨Rect.unit (s := S512x2048) ![0, 384] S512x128.size inb_S512x2048_S512x128_0_384, k0_pay29 (k0_pay3 x0) (invB x0)⟩,
     ⟨Rect.unit (s := S512x2048) ![0, 256] S512x128.size inb_S512x2048_S512x128_0_256, k0_pay28 (k0_pay26 (k0_pay3 x0) (expB x0) (zeroB x0) 0#32) (FloatOps.ofBits FTy.f32 0x43E00000#32) k0_pay27⟩,
     ⟨Rect.unit (s := S512x2048) ![0, 128] S512x128.size inb_S512x2048_S512x128_0_128, k0_pay25 (k0_pay3 x0) (expB x0) (zeroB x0) 0#32⟩,
     ⟨Rect.unit (s := S512x2048) ![0, 0] S512x128.size inb_S512x2048_S512x128_0_0, k0_pay24 (k0_pay3 x0) (expB x0) (zeroB x0) 0#32⟩]

/-- The pieces tile the block. -/
theorem codePieces_cover (x0 : Vec F S512x2048 .bf16) (y : S512x2048.Idx) : ∃ p ∈ codePieces x0, y ∈ p.1.set :=
  View.cover_of_tiled (codePieces x0) ![512, 128] (by rfl) y

/-- Each piece is `codesB` at the columns it is stored to. -/
theorem codePieces_eq (x0 : Vec F S512x2048 .bf16) : ∀ p ∈ codePieces x0, ∀ x : p.1.shape.Idx, p.2 x = codesB x0 (p.1.emb x) := by
  unfold codePieces
  simp only [List.forall_mem_cons, List.not_mem_nil, false_imp_iff, implies_true, and_true]
  exact ⟨fun x => piece_eq x0 1920 15 rfl (by decide) inb_S512x2048_S512x128_0_1920 slices_S512x2048_o0_1920_S512x128 slices_S512x16_o0_15_S512x1 x, fun x => piece_eq x0 1792 14 rfl (by decide) inb_S512x2048_S512x128_0_1792 slices_S512x2048_o0_1792_S512x128 slices_S512x16_o0_14_S512x1 x, fun x => piece_eq x0 1664 13 rfl (by decide) inb_S512x2048_S512x128_0_1664 slices_S512x2048_o0_1664_S512x128 slices_S512x16_o0_13_S512x1 x, fun x => piece_eq x0 1536 12 rfl (by decide) inb_S512x2048_S512x128_0_1536 slices_S512x2048_o0_1536_S512x128 slices_S512x16_o0_12_S512x1 x, fun x => piece_eq x0 1408 11 rfl (by decide) inb_S512x2048_S512x128_0_1408 slices_S512x2048_o0_1408_S512x128 slices_S512x16_o0_11_S512x1 x, fun x => piece_eq x0 1280 10 rfl (by decide) inb_S512x2048_S512x128_0_1280 slices_S512x2048_o0_1280_S512x128 slices_S512x16_o0_10_S512x1 x, fun x => piece_eq x0 1152 9 rfl (by decide) inb_S512x2048_S512x128_0_1152 slices_S512x2048_o0_1152_S512x128 slices_S512x16_o0_9_S512x1 x, fun x => piece_eq x0 1024 8 rfl (by decide) inb_S512x2048_S512x128_0_1024 slices_S512x2048_o0_1024_S512x128 slices_S512x16_o0_8_S512x1 x, fun x => piece_eq x0 896 7 rfl (by decide) inb_S512x2048_S512x128_0_896 slices_S512x2048_o0_896_S512x128 slices_S512x16_o0_7_S512x1 x, fun x => piece_eq x0 768 6 rfl (by decide) inb_S512x2048_S512x128_0_768 slices_S512x2048_o0_768_S512x128 slices_S512x16_o0_6_S512x1 x, fun x => piece_eq x0 640 5 rfl (by decide) inb_S512x2048_S512x128_0_640 slices_S512x2048_o0_640_S512x128 slices_S512x16_o0_5_S512x1 x, fun x => piece_eq x0 512 4 rfl (by decide) inb_S512x2048_S512x128_0_512 slices_S512x2048_o0_512_S512x128 slices_S512x16_o0_4_S512x1 x, fun x => piece_eq x0 384 3 rfl (by decide) inb_S512x2048_S512x128_0_384 slices_S512x2048_o0_384_S512x128 slices_S512x16_o0_3_S512x1 x, fun x => piece_eq x0 256 2 rfl (by decide) inb_S512x2048_S512x128_0_256 slices_S512x2048_o0_256_S512x128 slices_S512x16_o0_2_S512x1 x, fun x => piece_eq x0 128 1 rfl (by decide) inb_S512x2048_S512x128_0_128 slices_S512x2048_o0_128_S512x128 slices_S512x16_o0_1_S512x1 x, fun x => piece_eq x0 0 0 rfl (by decide) inb_S512x2048_S512x128_0_0 slices_S512x2048_o0_0_S512x128 slices_S512x16_o0_0_S512x1 x⟩

/-- The stored codes are `codesB`. -/
theorem canon_codes (x0 : Vec F S512x2048 .bf16) : View.canon (codePieces x0) = codesB x0 :=
  funext fun y => View.canon_apply_of_pieces (codesB x0) (codePieces x0) (codePieces_eq x0) y (codePieces_cover x0 y)

/-- A load of the codes just stored. -/
theorem readCov_codes (v : View sig .tc .vmem S512x2048 .fp8e4m3) (r : Rect S512x2048) (x0 : Vec F S512x2048 .bf16) :
    v.readCov (codePieces x0) r.toLoadRect = View.ld (codesB x0) r := by
  rw [View.readCov_eq_canon', canon_codes]

/-- A load of the scales just stored. -/
theorem readCov_scales (v : View sig .tc .vmem S512x16 .f32) (r : Rect S512x16) (s : Vec F S512x16 .f32) :
    v.readCov [(⟨Rect.unit (s := S512x16) ![0, 0] S512x16.size inb_S512x16_S512x16_0_0, s⟩ : View.Piece (Elt F) S512x16 .f32)] r.toLoadRect = View.ld s r := by
  rw [View.readCov_eq_canon', View.canon_unit_zero (S := S512x16) hz]

/-- The pieces of codes found by running the body are `codePieces`. -/
theorem first_codes_pieces (c : Dev nD) (i : grid0.Coords) (a2 : Memref sig .tc .vmem S512x2048 .bf16) (h2 : a2.IsWhole) (a3 : Memref sig .tc .vmem S2048x512 .fp8e4m3) (h3 : a3.IsWhole)
    (a4 : Memref sig .tc .vmem S16x512 .f32) (h4 : a4.IsWhole) (a5 : Memref sig .tc .vmem S1x512 .f32) (h5 : a5.IsWhole) (a6 : Memref sig .tc .vmem S512x512 .bf16) (h6 : a6.IsWhole)
    (a7 : Memref sig .tc .vmem S512x2048 .fp8e4m3) (h7 : a7.IsWhole) (a8 : Memref sig .tc .vmem S512x16 .f32) (h8 : a8.IsWhole) (a9 : Memref sig .tc .vmem S512x512 .f32) (h9 : a9.IsWhole) (hc : cond0_0 i)
    (x0 : Vec F S512x2048 .bf16) (x1 : Vec F S2048x512 .fp8e4m3) (x2 : Vec F S16x512 .f32) (x3 : Vec F S1x512 .f32) :
    (runFirst (F := F) c i a2 h2 a3 h3 a4 h4 a5 h5 a6 h6 a7 h7 a8 h8 a9 h9 hc x0 x1 x2 x3).2.1 = codePieces x0 := by
  unfold runFirst; dsimp only; sl_unfold_run_names
  simp only [View.readAt_eq_ld, h2.read_unread, View.ld_unit_zero (S := S512x2048) hz, ← amaxB.eq_1, ← quotB.eq_1, ← expB.eq_1, ← zeroB.eq_1, ← scalesB.eq_1, ← invB.eq_1]

/-- The one piece of scales found by running the body. -/
theorem first_scales_pieces (c : Dev nD) (i : grid0.Coords) (a2 : Memref sig .tc .vmem S512x2048 .bf16) (h2 : a2.IsWhole) (a3 : Memref sig .tc .vmem S2048x512 .fp8e4m3) (h3 : a3.IsWhole)
    (a4 : Memref sig .tc .vmem S16x512 .f32) (h4 : a4.IsWhole) (a5 : Memref sig .tc .vmem S1x512 .f32) (h5 : a5.IsWhole) (a6 : Memref sig .tc .vmem S512x512 .bf16) (h6 : a6.IsWhole)
    (a7 : Memref sig .tc .vmem S512x2048 .fp8e4m3) (h7 : a7.IsWhole) (a8 : Memref sig .tc .vmem S512x16 .f32) (h8 : a8.IsWhole) (a9 : Memref sig .tc .vmem S512x512 .f32) (h9 : a9.IsWhole) (hc : cond0_0 i)
    (x0 : Vec F S512x2048 .bf16) (x1 : Vec F S2048x512 .fp8e4m3) (x2 : Vec F S16x512 .f32) (x3 : Vec F S1x512 .f32) :
    (runFirst (F := F) c i a2 h2 a3 h3 a4 h4 a5 h5 a6 h6 a7 h7 a8 h8 a9 h9 hc x0 x1 x2 x3).2.2.1 = [⟨Rect.unit (s := S512x16) ![0, 0] S512x16.size inb_S512x16_S512x16_0_0, scalesB x0⟩] := by
  unfold runFirst; dsimp only; sl_unfold_run_names
  simp only [View.readAt_eq_ld, h2.read_unread, View.ld_unit_zero (S := S512x2048) hz, ← amaxB.eq_1, ← quotB.eq_1, ← expB.eq_1, ← zeroB.eq_1, ← scalesB.eq_1, ← invB.eq_1]

/-- The block of the result a later point stores: `yB` of the codes and scales it finds. -/
theorem later_y (c : Dev nD) (i : grid0.Coords) (a2 : Memref sig .tc .vmem S512x2048 .bf16) (h2 : a2.IsWhole) (a3 : Memref sig .tc .vmem S2048x512 .fp8e4m3) (h3 : a3.IsWhole)
    (a4 : Memref sig .tc .vmem S16x512 .f32) (h4 : a4.IsWhole) (a5 : Memref sig .tc .vmem S1x512 .f32) (h5 : a5.IsWhole) (a6 : Memref sig .tc .vmem S512x512 .bf16) (h6 : a6.IsWhole)
    (a7 : Memref sig .tc .vmem S512x2048 .fp8e4m3) (h7 : a7.IsWhole) (a8 : Memref sig .tc .vmem S512x16 .f32) (h8 : a8.IsWhole) (a9 : Memref sig .tc .vmem S512x512 .f32) (h9 : a9.IsWhole) (hc : ¬cond0_0 i)
    (x0 : Vec F S512x2048 .bf16) (x1 : Vec F S2048x512 .fp8e4m3) (x2 : Vec F S16x512 .f32) (x3 : Vec F S1x512 .f32) (x5 : Vec F S512x2048 .fp8e4m3) (x6 : Vec F S512x16 .f32) :
    (runLater (F := F) c i a2 h2 a3 h3 a4 h4 a5 h5 a6 h6 a7 h7 a8 h8 a9 h9 hc x0 x1 x2 x3 x5 x6).1 = [⟨Rect.unit (s := S512x512) ![0, 0] S512x512.size inb_S512x512_S512x512_0_0, yB x5 x1 x6 x2 x3⟩] := by
  unfold runLater; dsimp only; sl_unfold_run_names
  simp only [View.readCov_cons_toLoadRect, View.readAt_eq_ld, h3.read_unread, h4.read_unread, h5.read_unread, h7.read_unread, h8.read_unread,
    View.ld_unit_zero (S := S1x512) hz]
  simp only [k0_pay1, k0_pay2, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, shapeCast_self]
  rfl

/-- The block of the result a first point stores: `yB` of the codes and scales it has just stored. -/
theorem first_y (c : Dev nD) (i : grid0.Coords) (a2 : Memref sig .tc .vmem S512x2048 .bf16) (h2 : a2.IsWhole) (a3 : Memref sig .tc .vmem S2048x512 .fp8e4m3) (h3 : a3.IsWhole)
    (a4 : Memref sig .tc .vmem S16x512 .f32) (h4 : a4.IsWhole) (a5 : Memref sig .tc .vmem S1x512 .f32) (h5 : a5.IsWhole) (a6 : Memref sig .tc .vmem S512x512 .bf16) (h6 : a6.IsWhole)
    (a7 : Memref sig .tc .vmem S512x2048 .fp8e4m3) (h7 : a7.IsWhole) (a8 : Memref sig .tc .vmem S512x16 .f32) (h8 : a8.IsWhole) (a9 : Memref sig .tc .vmem S512x512 .f32) (h9 : a9.IsWhole) (hc : cond0_0 i)
    (x0 : Vec F S512x2048 .bf16) (x1 : Vec F S2048x512 .fp8e4m3) (x2 : Vec F S16x512 .f32) (x3 : Vec F S1x512 .f32) :
    (runFirst (F := F) c i a2 h2 a3 h3 a4 h4 a5 h5 a6 h6 a7 h7 a8 h8 a9 h9 hc x0 x1 x2 x3).1 = [⟨Rect.unit (s := S512x512) ![0, 0] S512x512.size inb_S512x512_S512x512_0_0, yB (codesB x0) x1 (scalesB x0) x2 x3⟩] := by
  unfold runFirst; dsimp only; sl_unfold_run_names
  simp only [View.readAt_eq_ld, h2.read_unread, View.ld_unit_zero (S := S512x2048) hz, ← amaxB.eq_1, ← quotB.eq_1, ← expB.eq_1, ← zeroB.eq_1, ← scalesB.eq_1, ← invB.eq_1]
  have hq := fun (v : View sig .tc .vmem S512x2048 .fp8e4m3) (r : Rect S512x2048) => readCov_codes v r x0
  unfold codePieces at hq
  have hsc := fun (v : View sig .tc .vmem S512x16 .f32) (r : Rect S512x16) => readCov_scales v r (scalesB x0)
  simp only [hq, hsc]
  simp only [View.readCov_cons_toLoadRect, View.readAt_eq_ld, h3.read_unread, h4.read_unread, h5.read_unread,
    View.ld_unit_zero (S := S1x512) hz]
  simp only [k0_pay1, k0_pay2, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, shapeCast_self]
  rfl

end Cert.KernelIdeal.Run

end
-- ==== Proof.BlockRun.lean ====
/-
  The two runs of the body restated with what every buffer holds at the end, in the terms of `Block.lean`.
-/
module

public import proofs.«01_k».proof.Proof.BlockValue

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer written through pieces that cover it holds what the pieces hold together. -/
theorem owns_of_writes {S : Shape} {e : EltTy} (c : Dev nD) (a : Memref sig .tc .vmem S e) (L : List (View.Piece (Elt F) S e)) (X : S.Idx → Elt F e)
    (hX : View.canon L = X) (hL : ∀ y, ∃ p ∈ L, y ∈ p.1.set) :
    (iprop(∃ f, a.view.loc (c : Thread nD τ) ↦[a.view.set]{fullShare} a.view.writes (Elt F) f L) : sProp 𝕄)
      ⊢ owns (c : Thread nD τ) a fullShare X := by
  unfold owns
  iintro ⟨%f, H⟩
  iexists _; isplitr
  swap; · iexact H
  ipureintro
  rw [← hX]
  exact View.read_writes_eq_canon _ _ _ hL

/-- The same of one store over the whole buffer: of a block of the result, -/
theorem owns_y (c : Dev nD) (a : Memref sig .tc .vmem S512x512 .bf16) (X : Vec F S512x512 .bf16) :
    (iprop(∃ f, a.view.loc (c : Thread nD τ) ↦[a.view.set]{fullShare} a.view.writes (Elt F) f
        [⟨Rect.unit (s := S512x512) ![0, 0] S512x512.size inb_S512x512_S512x512_0_0, X⟩]) : sProp 𝕄)
      ⊢ owns (c : Thread nD τ) a fullShare X :=
  owns_of_writes c a _ X (View.canon_unit_zero (S := S512x512) hz _ _) fun y => View.cover_of_tiled _ S512x512.size (by rfl) y

/-- and of the scales. -/
theorem owns_s (c : Dev nD) (a : Memref sig .tc .vmem S512x16 .f32) (X : Vec F S512x16 .f32) :
    (iprop(∃ f, a.view.loc (c : Thread nD τ) ↦[a.view.set]{fullShare} a.view.writes (Elt F) f
        [⟨Rect.unit (s := S512x16) ![0, 0] S512x16.size inb_S512x16_S512x16_0_0, X⟩]) : sProp 𝕄)
      ⊢ owns (c : Thread nD τ) a fullShare X :=
  owns_of_writes c a _ X (View.canon_unit_zero (S := S512x16) hz _ _) fun y => View.cover_of_tiled _ S512x16.size (by rfl) y

/-- The codes' sixteen pieces hold the codes. -/
theorem owns_q (c : Dev nD) (a : Memref sig .tc .vmem S512x2048 .fp8e4m3) (x0 : Vec F S512x2048 .bf16) :
    (iprop(∃ f, a.view.loc (c : Thread nD τ) ↦[a.view.set]{fullShare} a.view.writes (Elt F) f (codePieces x0)) : sProp 𝕄)
      ⊢ owns (c : Thread nD τ) a fullShare (codesB x0) :=
  owns_of_writes c a _ _ (canon_codes x0) (codePieces_cover x0)

/-- What is proved of the lists a run finds, of the lists they are proved to be. -/
theorem pieces_at {α β γ : Type} {P : α → β → γ → Prop} (R : Σ' (a : α) (b : β), { c : γ // P a b c }) {a : α} {b : β} {c : γ}
    (ha : R.1 = a) (hb : R.2.1 = b) (hc : R.2.2.1 = c) : P a b c := by
  obtain ⟨_, _, _, h⟩ := R
  subst ha hb hc
  exact h

/-- The body at a row's first point, its stores written out. -/
theorem first_pieces (c : Dev nD) (i : grid0.Coords) (arg2 : Memref sig .tc .vmem S512x2048 .bf16) (harg2 : arg2.IsWhole) (arg3 : Memref sig .tc .vmem S2048x512 .fp8e4m3) (harg3 : arg3.IsWhole)
    (arg4 : Memref sig .tc .vmem S16x512 .f32) (harg4 : arg4.IsWhole) (arg5 : Memref sig .tc .vmem S1x512 .f32) (harg5 : arg5.IsWhole)
    (arg6 : Memref sig .tc .vmem S512x512 .bf16) (harg6 : arg6.IsWhole) (arg7 : Memref sig .tc .vmem S512x2048 .fp8e4m3) (harg7 : arg7.IsWhole)
    (arg8 : Memref sig .tc .vmem S512x16 .f32) (harg8 : arg8.IsWhole) (arg9 : Memref sig .tc .vmem S512x512 .f32) (harg9 : arg9.IsWhole) (hc0 : cond0_0 i) (x0 : Vec F S512x2048 .bf16) (x1 : Vec F S2048x512 .fp8e4m3) (x2 : Vec F S16x512 .f32) (x3 : Vec F S1x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3
          ∗ (∃ f, arg6.view.loc (c : Thread nD τ) ↦[arg6.view.set]{fullShare} arg6.view.writes (Elt F) f
            [⟨Rect.unit (s := S512x512) ![0, 0] S512x512.size inb_S512x512_S512x512_0_0, yB (codesB x0) x1 (scalesB x0) x2 x3⟩])
          ∗ (∃ f, arg7.view.loc (c : Thread nD τ) ↦[arg7.view.set]{fullShare} arg7.view.writes (Elt F) f
            (codePieces x0))
          ∗ (∃ f, arg8.view.loc (c : Thread nD τ) ↦[arg8.view.set]{fullShare} arg8.view.writes (Elt F) f
            [⟨Rect.unit (s := S512x16) ![0, 0] S512x16.size inb_S512x16_S512x16_0_0, scalesB x0⟩]) ∗ (∃ d, owns (c : Thread nD τ) arg9 fullShare d)) -∗ K ⟨⟩))
    ⊢ wp frame (wpE (defs₀ (F := F)) Variants.none c none) E (cc0__body i arg2 harg2 arg3 harg3 arg4 harg4 arg5 harg5 arg6 harg6 arg7 harg7 arg8 harg8 arg9 harg9) K := by
  exact pieces_at (runFirst c i arg2 harg2 arg3 harg3 arg4 harg4 arg5 harg5 arg6 harg6 arg7 harg7 arg8 harg8 arg9 harg9 hc0 x0 x1 x2 x3)
    (first_y c i arg2 harg2 arg3 harg3 arg4 harg4 arg5 harg5 arg6 harg6 arg7 harg7 arg8 harg8 arg9 harg9 hc0 x0 x1 x2 x3)
    (first_codes_pieces c i arg2 harg2 arg3 harg3 arg4 harg4 arg5 harg5 arg6 harg6 arg7 harg7 arg8 harg8 arg9 harg9 hc0 x0 x1 x2 x3)
    (first_scales_pieces c i arg2 harg2 arg3 harg3 arg4 harg4 arg5 harg5 arg6 harg6 arg7 harg7 arg8 harg8 arg9 harg9 hc0 x0 x1 x2 x3) E K

/-- The body at a row's first point: it leaves the codes and the scales of `x0`, and the block of the result. -/
theorem first_run (c : Dev nD) (i : grid0.Coords) (arg2 : Memref sig .tc .vmem S512x2048 .bf16) (harg2 : arg2.IsWhole) (arg3 : Memref sig .tc .vmem S2048x512 .fp8e4m3) (harg3 : arg3.IsWhole)
    (arg4 : Memref sig .tc .vmem S16x512 .f32) (harg4 : arg4.IsWhole) (arg5 : Memref sig .tc .vmem S1x512 .f32) (harg5 : arg5.IsWhole)
    (arg6 : Memref sig .tc .vmem S512x512 .bf16) (harg6 : arg6.IsWhole) (arg7 : Memref sig .tc .vmem S512x2048 .fp8e4m3) (harg7 : arg7.IsWhole)
    (arg8 : Memref sig .tc .vmem S512x16 .f32) (harg8 : arg8.IsWhole) (arg9 : Memref sig .tc .vmem S512x512 .f32) (harg9 : arg9.IsWhole) (hc0 : cond0_0 i) (x0 : Vec F S512x2048 .bf16) (x1 : Vec F S2048x512 .fp8e4m3) (x2 : Vec F S16x512 .f32) (x3 : Vec F S1x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare (yB (codesB x0) x1 (scalesB x0) x2 x3) ∗ owns (c : Thread nD τ) arg7 fullShare (codesB x0) ∗ owns (c : Thread nD τ) arg8 fullShare (scalesB x0) ∗ (∃ d, owns (c : Thread nD τ) arg9 fullShare d)) -∗ K ⟨⟩))
    ⊢ wp frame (wpE (defs₀ (F := F)) Variants.none c none) E (cc0__body i arg2 harg2 arg3 harg3 arg4 harg4 arg5 harg5 arg6 harg6 arg7 harg7 arg8 harg8 arg9 harg9) K := by
  iintro ⟨H2, H3, H4, H5, H6, H7, H8, H9, Hk⟩
  iapply (first_pieces c i arg2 harg2 arg3 harg3 arg4 harg4 arg5 harg5 arg6 harg6 arg7 harg7 arg8 harg8 arg9 harg9 hc0 x0 x1 x2 x3 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, H5, H6, H7, H8, H9⟩
  iapply Hk
  isplitl [H2]; · iexact H2
  isplitl [H3]; · iexact H3
  isplitl [H4]; · iexact H4
  isplitl [H5]; · iexact H5
  isplitl [H6]; · iapply (owns_y c arg6 _); iexact H6
  isplitl [H7]; · iapply (owns_q c arg7 _); iexact H7
  isplitl [H8]; · iapply (owns_s c arg8 _); iexact H8
  iexact H9

/-- The body at another point, its store written out. -/
theorem later_pieces (c : Dev nD) (i : grid0.Coords) (arg2 : Memref sig .tc .vmem S512x2048 .bf16) (harg2 : arg2.IsWhole) (arg3 : Memref sig .tc .vmem S2048x512 .fp8e4m3) (harg3 : arg3.IsWhole)
    (arg4 : Memref sig .tc .vmem S16x512 .f32) (harg4 : arg4.IsWhole) (arg5 : Memref sig .tc .vmem S1x512 .f32) (harg5 : arg5.IsWhole)
    (arg6 : Memref sig .tc .vmem S512x512 .bf16) (harg6 : arg6.IsWhole) (arg7 : Memref sig .tc .vmem S512x2048 .fp8e4m3) (harg7 : arg7.IsWhole)
    (arg8 : Memref sig .tc .vmem S512x16 .f32) (harg8 : arg8.IsWhole) (arg9 : Memref sig .tc .vmem S512x512 .f32) (harg9 : arg9.IsWhole) (hc0 : ¬cond0_0 i) (x0 : Vec F S512x2048 .bf16) (x1 : Vec F S2048x512 .fp8e4m3) (x2 : Vec F S16x512 .f32) (x3 : Vec F S1x512 .f32)
    (x5 : Vec F S512x2048 .fp8e4m3) (x6 : Vec F S512x16 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare x6 ∗ (∃ d, owns (c : Thread nD τ) arg9 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3
          ∗ (∃ f, arg6.view.loc (c : Thread nD τ) ↦[arg6.view.set]{fullShare} arg6.view.writes (Elt F) f
            [⟨Rect.unit (s := S512x512) ![0, 0] S512x512.size inb_S512x512_S512x512_0_0, yB x5 x1 x6 x2 x3⟩])
          ∗ owns (c : Thread nD τ) arg7 fullShare x5 ∗ owns (c : Thread nD τ) arg8 fullShare x6 ∗ (∃ d, owns (c : Thread nD τ) arg9 fullShare d)) -∗ K ⟨⟩))
    ⊢ wp frame (wpE (defs₀ (F := F)) Variants.none c none) E (cc0__body i arg2 harg2 arg3 harg3 arg4 harg4 arg5 harg5 arg6 harg6 arg7 harg7 arg8 harg8 arg9 harg9) K := by
  have h := (runLater c i arg2 harg2 arg3 harg3 arg4 harg4 arg5 harg5 arg6 harg6 arg7 harg7 arg8 harg8 arg9 harg9 hc0 x0 x1 x2 x3 x5 x6).2 E K
  rw [later_y] at h
  exact h

/-- The body at another point: it finds codes and scales, leaves them, and leaves the block of the result. -/
theorem later_run (c : Dev nD) (i : grid0.Coords) (arg2 : Memref sig .tc .vmem S512x2048 .bf16) (harg2 : arg2.IsWhole) (arg3 : Memref sig .tc .vmem S2048x512 .fp8e4m3) (harg3 : arg3.IsWhole)
    (arg4 : Memref sig .tc .vmem S16x512 .f32) (harg4 : arg4.IsWhole) (arg5 : Memref sig .tc .vmem S1x512 .f32) (harg5 : arg5.IsWhole)
    (arg6 : Memref sig .tc .vmem S512x512 .bf16) (harg6 : arg6.IsWhole) (arg7 : Memref sig .tc .vmem S512x2048 .fp8e4m3) (harg7 : arg7.IsWhole)
    (arg8 : Memref sig .tc .vmem S512x16 .f32) (harg8 : arg8.IsWhole) (arg9 : Memref sig .tc .vmem S512x512 .f32) (harg9 : arg9.IsWhole) (hc0 : ¬cond0_0 i) (x0 : Vec F S512x2048 .bf16) (x1 : Vec F S2048x512 .fp8e4m3) (x2 : Vec F S16x512 .f32) (x3 : Vec F S1x512 .f32)
    (x5 : Vec F S512x2048 .fp8e4m3) (x6 : Vec F S512x16 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare x6 ∗ (∃ d, owns (c : Thread nD τ) arg9 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare (yB x5 x1 x6 x2 x3) ∗ owns (c : Thread nD τ) arg7 fullShare x5 ∗ owns (c : Thread nD τ) arg8 fullShare x6 ∗ (∃ d, owns (c : Thread nD τ) arg9 fullShare d)) -∗ K ⟨⟩))
    ⊢ wp frame (wpE (defs₀ (F := F)) Variants.none c none) E (cc0__body i arg2 harg2 arg3 harg3 arg4 harg4 arg5 harg5 arg6 harg6 arg7 harg7 arg8 harg8 arg9 harg9) K := by
  iintro ⟨H2, H3, H4, H5, H6, H7, H8, H9, Hk⟩
  iapply (later_pieces c i arg2 harg2 arg3 harg3 arg4 harg4 arg5 harg5 arg6 harg6 arg7 harg7 arg8 harg8 arg9 harg9 hc0 x0 x1 x2 x3 x5 x6 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, H5, H6, H7, H8, H9⟩
  iapply Hk
  isplitl [H2]; · iexact H2
  isplitl [H3]; · iexact H3
  isplitl [H4]; · iexact H4
  isplitl [H5]; · iexact H5
  isplitl [H6]; · iapply (owns_y c arg6 _); iexact H6
  isplitl [H7]; · iexact H7
  isplitl [H8]; · iexact H8
  iexact H9

end Cert.KernelIdeal.Run

end
-- ==== Proof.KernelRun.lean ====
/-
  The kernel's run, with the contents of its three outputs named.

  At every point the codes' and the scales' buffers hold the codes and the scales of the point's block of tokens: the
  body stores them at a row's first point, and finds them in place at the others, for the block of tokens is the same all
  along the row. So the block of the result is, at every point, `yB` of them and of the point's blocks of the other
  arguments.
-/
module

public import proofs.«01_k».proof.Proof.BlockRun
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after each point -/

/-- After the body at point `t`: each input's buffer at its block, the codes' and the scales' at those of the block of
    tokens, the result's at the block computed from them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yB (codesB (iblk m c 0 t)) (iblk m c 1 t) (scalesB (iblk m c 0 t)) (iblk m c 2 t) (iblk m c 3 t)
    | ⟨5, _⟩ => codesB (iblk m c 0 t)
    | ⟨6, _⟩ => scalesB (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t
    = yB (codesB (iblk m c 0 t)) (iblk m c 1 t) (scalesB (iblk m c 0 t)) (iblk m c 2 t) (iblk m c 3 t) := by dsimp only [dats]
theorem after0_5 (c : Dev nD) (t : Fin cfg0.N) : (dats m 0 c).after 5 t = codesB (iblk m c 0 t) := by dsimp only [dats]
theorem after0_6 (c : Dev nD) (t : Fin cfg0.N) : (dats m 0 c).after 6 t = scalesB (iblk m c 0 t) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The point before `t`. -/
abbrev prev (t : Fin cfg0.N) : Fin cfg0.N := ⟨t.val - 1, Nat.lt_of_le_of_lt (Nat.sub_le _ _) t.isLt⟩

/-- Inside a row the block of tokens is the previous point's. -/
theorem iblk0_prev (c : Dev nD) (t : Fin cfg0.N) (ht : t.val % 32 ≠ 0) : iblk m c 0 (prev t) = iblk m c 0 t := by
  have hf : (cfg0.win 0).fetch t = false := Bool.eq_false_iff.mpr fun h => ht ((fetch0_0 t).mp h)
  have h0 : t.val ≠ 0 := fun h => ht (by rw [h])
  have hd : (cfg0.win 0).flush (prev t) = false := rfl
  have d : (cfg0.win 0).block.Idx → Elt F (cfg0.win 0).elt := (dats m 0 c).after 0 t
  have h1 := (dats m 0 c).before_of_pos 0 t h0 hf d
  rw [before0_0, if_neg (by rw [hd]; decide)] at h1
  rw [h1]
  exact (after0_0 m c (prev t)).symm

/-- Whether the body stores the codes and the scales at a point: at a row's first. -/
theorem idle_of (t : Fin cfg0.N) : (!(k0_cond1 (cfg0.grid.coords t) == 1#1)) = !decide (t.val % 32 = 0) := by
  by_cases h : t.val % 32 = 0
  · have e : k0_cond1 (cfg0.grid.coords t) = 1#1 := (hcond0_0 t).mpr h
    rw [e, decide_eq_true h]; rfl
  · have e : ¬k0_cond1 (cfg0.grid.coords t) = 1#1 := fun g => h ((hcond0_0 t).mp g)
    rw [decide_eq_false h, beq_eq_false_iff_ne.mpr e]

theorem idle5 (t : Fin cfg0.N) : cfg0.idle 5 (cfg0.grid.coords t) = !decide (t.val % 32 = 0) := idle_of t
theorem idle6 (t : Fin cfg0.N) : cfg0.idle 6 (cfg0.grid.coords t) = !decide (t.val % 32 = 0) := idle_of t

/-- Inside a row the body finds the codes in place: the first point stored them, the others leave them. -/
theorem before0_5 (c : Dev nD) (d) : ∀ (n : ℕ) (hn : n < cfg0.N), n % 32 ≠ 0 → (dats m 0 c).before 5 ⟨n, hn⟩ d = codesB (iblk m c 0 ⟨n, hn⟩)
  | 0, _, h => absurd rfl h
  | n + 1, hn, h => by
    have hd : ¬((cfg0.win 5).flush (prev ⟨n + 1, hn⟩) = true) := fun g => by
      have := (flush0_5 (prev ⟨n + 1, hn⟩)).mp g; simp only [Nat.add_sub_cancel] at this; omega
    rw [(dats m 0 c).before_of_pos 5 ⟨n + 1, hn⟩ (Nat.succ_ne_zero n) rfl d, if_neg hd, ← iblk0_prev m c ⟨n + 1, hn⟩ h]
    unfold Dat.left
    by_cases h' : n % 32 = 0
    · have e : cfg0.idle 5 (cfg0.grid.coords (prev ⟨n + 1, hn⟩)) = false := by
        rw [idle5]; simp only [Nat.add_sub_cancel, h', decide_true, Bool.not_true]
      rw [e]; exact after0_5 m c (prev ⟨n + 1, hn⟩)
    · have e : cfg0.idle 5 (cfg0.grid.coords (prev ⟨n + 1, hn⟩)) = true := by
        rw [idle5]; simp only [Nat.add_sub_cancel, h', decide_false, Bool.not_false]
      rw [e]; exact before0_5 c d n (Nat.lt_of_succ_lt hn) h'

/-- The same of the scales. -/
theorem before0_6 (c : Dev nD) (d) : ∀ (n : ℕ) (hn : n < cfg0.N), n % 32 ≠ 0 → (dats m 0 c).before 6 ⟨n, hn⟩ d = scalesB (iblk m c 0 ⟨n, hn⟩)
  | 0, _, h => absurd rfl h
  | n + 1, hn, h => by
    have hd : ¬((cfg0.win 6).flush (prev ⟨n + 1, hn⟩) = true) := fun g => by
      have := (flush0_6 (prev ⟨n + 1, hn⟩)).mp g; simp only [Nat.add_sub_cancel] at this; omega
    rw [(dats m 0 c).before_of_pos 6 ⟨n + 1, hn⟩ (Nat.succ_ne_zero n) rfl d, if_neg hd, ← iblk0_prev m c ⟨n + 1, hn⟩ h]
    unfold Dat.left
    by_cases h' : n % 32 = 0
    · have e : cfg0.idle 6 (cfg0.grid.coords (prev ⟨n + 1, hn⟩)) = false := by
        rw [idle6]; simp only [Nat.add_sub_cancel, h', decide_true, Bool.not_true]
      rw [e]; exact after0_6 m c (prev ⟨n + 1, hn⟩)
    · have e : cfg0.idle 6 (cfg0.grid.coords (prev ⟨n + 1, hn⟩)) = true := by
        rw [idle6]; simp only [Nat.add_sub_cancel, h', decide_false, Bool.not_false]
      rw [e]; exact before0_6 c d n (Nat.lt_of_succ_lt hn) h'

/-- What the pipeline asks of the codes' buffer after a point, from its holding the codes, -/
theorem leaves5 (c : Dev nD) (t : Fin cfg0.N) :
    (owns (c : Thread nD τ) (st0_5 t) fullShare ((dats m 0 c).after 5 t) : sProp 𝕄) ⊢ (dats m 0 c).leavesExact 5 t := by
  unfold Dat.leavesExact
  by_cases h : t.val % 32 = 0
  · have e : cfg0.idle 5 (cfg0.grid.coords t) = false := by rw [idle5, decide_eq_true h]; rfl
    rw [e]
  · have e : cfg0.idle 5 (cfg0.grid.coords t) = true := by rw [idle5, decide_eq_false h]; rfl
    rw [e]
    cases hf : (cfg0.win 5).flush t
    · rw [after0_5, ← before0_5 m c (codesB (iblk m c 0 t)) t.val t.isLt h]
      iintro H; iexists _; iexact H
    · exact .rfl

/-- and of the scales'. -/
theorem leaves6 (c : Dev nD) (t : Fin cfg0.N) :
    (owns (c : Thread nD τ) (st0_6 t) fullShare ((dats m 0 c).after 6 t) : sProp 𝕄) ⊢ (dats m 0 c).leavesExact 6 t := by
  unfold Dat.leavesExact
  by_cases h : t.val % 32 = 0
  · have e : cfg0.idle 6 (cfg0.grid.coords t) = false := by rw [idle6, decide_eq_true h]; rfl
    rw [e]
  · have e : cfg0.idle 6 (cfg0.grid.coords t) = true := by rw [idle6, decide_eq_false h]; rfl
    rw [e]
    cases hf : (cfg0.win 6).flush t
    · rw [after0_6, ← before0_6 m c (scalesB (iblk m c 0 t)) t.val t.isLt h]
      iintro H; iexists _; iexact H
    · exact .rfl

/-! ## The body at a point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The scratch accumulator's memref is whole. -/
theorem hsc0 : scM0_0.IsWhole := Memref.isWhole_whole _

/-- The body at a row's first point. -/
theorem sound_first (c : Dev nD) (t : Fin cfg0.N) (ht : t.val % 32 = 0) :
    bodyPre m c t ⊢ wp frame (wpE (defs₀ (F := F)) Variants.none c none) Set.univ (bodyAt0 t) (fun _ => bodyPost m c t) := by
  have hc : cond0_0 (grid0.coords t) := (hcond0_0 t).mpr ht
  unfold bodyPre bodyPost bodyAt0
  simp only [before0_0, before0_1, before0_2, before0_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, PhiA0_eq]
  iintro ⟨⟨Hs, Hr⟩, Ho, ⟨%d0, H0⟩, ⟨%d1, H1⟩, ⟨%d2, H2⟩, ⟨%d3, H3⟩, ⟨%d4, H4⟩, ⟨%d5, H5⟩, ⟨%d6, H6⟩⟩
  iapply (first_run c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 hsc0 hc (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [Hs]; · iexact Hs
  iintro ⟨H0, H1, H2, H3, H4, H5, H6, Hs⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at a row's other points. -/
theorem sound_later (c : Dev nD) (t : Fin cfg0.N) (ht : t.val % 32 ≠ 0) :
    bodyPre m c t ⊢ wp frame (wpE (defs₀ (F := F)) Variants.none c none) Set.univ (bodyAt0 t) (fun _ => bodyPost m c t) := by
  have hc : ¬cond0_0 (grid0.coords t) := fun h => ht ((hcond0_0 t).mp h)
  unfold bodyPre bodyPost bodyAt0
  simp only [before0_0, before0_1, before0_2, before0_3,
    show ∀ d, (dats m 0 c).before 5 t d = codesB (iblk m c 0 t) from fun d => before0_5 m c d t.val t.isLt ht,
    show ∀ d, (dats m 0 c).before 6 t d = scalesB (iblk m c 0 t) from fun d => before0_6 m c d t.val t.isLt ht]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, PhiA0_eq]
  iintro ⟨⟨Hs, Hr⟩, Ho, ⟨%d0, H0⟩, ⟨%d1, H1⟩, ⟨%d2, H2⟩, ⟨%d3, H3⟩, ⟨%d4, H4⟩, ⟨%d5, H5⟩, ⟨%d6, H6⟩⟩
  iapply (later_run c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 hsc0 hc (iblk m c 0 t) (iblk m c 1 t) (iblk m c 2 t) (iblk m c 3 t) (codesB (iblk m c 0 t)) (scalesB (iblk m c 0 t)) Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [Hs]; · iexact Hs
  iintro ⟨H0, H1, H2, H3, H4, H5, H6, Hs⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem sound_body (c : Dev nD) (t : Fin cfg0.N) :
    bodyPre m c t ⊢ wp frame (wpE (defs₀ (F := F)) Variants.none c none) Set.univ (bodyAt0 t) (fun _ => bodyPost m c t) := by
  by_cases ht : t.val % 32 = 0
  · exact sound_first m c t ht
  · exact sound_later m c t ht

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body at every point, as the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ =>
    BIClass.sep_mono .rfl (BIClass.sep_mono .rfl (BIClass.sep_mono .rfl (BIClass.sep_mono .rfl (BIClass.sep_mono .rfl (BIClass.sep_mono .rfl (BIClass.sep_mono .rfl
      (BIClass.sep_mono (leaves5 m c t) (leaves6 m c t))))))))

/-! ## The run -/

set_option backward.isDefEq.respectTransparency.types false in
set_option maxHeartbeats 800000 in
/-- The whole run: it ends, every array at what the proof data computes, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments unchanged and every counter at zero, at any float instance. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (unchanged m ρ) ((θ_run defs _ _).mono (fun _ h => h.2) (run_main_quiescent m ρ))

end Cert.KernelIdeal.Run

end
-- ==== Proof.SameProgram.lean ====
/-
  The two printed kernels are one program: the module printed for the bit patterns and the module printed for the
  extended reals differ in their namespace only, so what is proved of the second at any float instance holds of the first.
-/
module

public import proofs.«01_k».proof.Proof.KernelRun
public import proofs.«01_k».proof.Proof.Gen.Kernel

@[expose] public section

set_option maxRecDepth 65536

noncomputable section

namespace Cert.Kernel.Run

open Cert.Kernel Cert.Kernel.Gen
open Idealize.ShloMosaic Idealize.ShloMosaic.TcCoe
open Idealize.SL.Sem

variable {F : FTy → Type} [FloatOps F]

/-- The program, -/
theorem main_eq : HEq (Cert.Kernel.main (F := F)) (Cert.KernelIdeal.main (F := F)) :=
  HEq.refl (Cert.KernelIdeal.main (F := F))

/-- the body's table, label by label, -/
theorem defs₀_eq : Cert.Kernel.defs₀ (F := F) = (Cert.KernelIdeal.defs₀ (F := F) : Defs nD τ sig (Elt F) Λ₀) := by
  unfold Cert.Kernel.defs₀ Cert.KernelIdeal.defs₀
  refine congrArg Defs.onTc ?_
  funext l a
  match l, a with
  | ⟨0, _⟩, (t, s) => rfl
  | ⟨_ + 1, h⟩, _ => exact absurd h (Nat.not_lt.2 (Nat.le_add_left _ _))

/-- and the table it runs with. -/
theorem defs_eq : Cert.Kernel.defs (F := F)
    = (Cert.KernelIdeal.defs (F := F) : Defs nD τ sig (Elt F) (Pipeline.Sig Λ₀ (Fin 1) fun p => (pcfgs (F := F) p).Adm)) := by
  unfold Cert.Kernel.defs
  rw [defs₀_eq]
  rfl

/-- The printed kernel's frame: the arguments unchanged and every counter at zero, at any float instance. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) := by
  rw [defs_eq]
  exact Cert.KernelIdeal.Run.frame m ρ

end Cert.Kernel.Run

end
-- ==== Proof.Exponent.lean ====
/-
  The exponent and the powers of two, over the extended reals.

  The kernel finds the exponent of a positive number by a binary search over the eight bits of a float's exponent field,
  comparing with the float whose field is the candidate; it builds `2^e` from the field `e + 127`. Read exactly, the
  search of `u` ends at the field `n` with `2^(n-127) ≤ u < 2^(n-126)`, which is the floor of `log u / log 2`.
-/
module

public import Idealize.ShloMosaic.PureOps.Ideal
public import Idealize.ShloMosaic.PureOps.Ideal.Laws
public import Idealize.ShloMosaic.Lib.IdealHost

@[expose] public section

noncomputable section

namespace Cert.Exponent

open Idealize.ShloMosaic

/-- The float whose exponent field is the word `f` and whose other bits are zero. -/
def fieldFloat (f : BitVec 32) : EReal := Ideal.ofBits .f32 (f <<< 23)

theorem fieldBits : ∀ n : Fin 256,
    ((BitVec.ofNat 32 n.val <<< 23).extractLsb' 31 1 == 1#1) = false
    ∧ ((BitVec.ofNat 32 n.val <<< 23).extractLsb' 23 8).toNat = n.val
    ∧ ((BitVec.ofNat 32 n.val <<< 23).extractLsb' 0 23).toNat = 0 := by decide +kernel

/-- A pattern of positive sign, zero significand and normal field `n`. -/
theorem ieee_normal (b : BitVec 32) (n : Nat) (hs : (b.extractLsb' 31 1 == 1#1) = false)
    (he : (b.extractLsb' 23 8).toNat = n) (hf : (b.extractLsb' 0 23).toNat = 0) (h0 : 0 < n) (h1 : n < 255) :
    Ideal.ieee 8 23 b = (((2 : ℝ) ^ ((n : ℤ) - 127) : ℝ) : EReal) := by
  unfold Ideal.ieee
  simp only [show (8 + 23 : Nat) = 31 from rfl, hs, he, hf]
  rw [if_neg (by omega), if_neg (by omega)]
  congr 1
  simp only [Bool.false_eq_true, if_false, one_mul]
  rw [show (((2 ^ 23 + 0 : Nat) : ℝ)) = (2 : ℝ) ^ (23 : ℤ) by norm_num, ← zpow_add₀ (by norm_num : (2 : ℝ) ≠ 0)]
  congr 1
  push_cast
  omega

/-- A pattern of positive sign, zero significand and all-ones field. -/
theorem ieee_top (b : BitVec 32) (hs : (b.extractLsb' 31 1 == 1#1) = false)
    (he : (b.extractLsb' 23 8).toNat = 255) (hf : (b.extractLsb' 0 23).toNat = 0) : Ideal.ieee 8 23 b = ⊤ := by
  unfold Ideal.ieee
  simp only [show (8 + 23 : Nat) = 31 from rfl, hs, he, hf]
  simp

/-- A normal field `n` is the power `2^(n-127)`. -/
theorem fieldFloat_normal (n : Nat) (h0 : 0 < n) (h1 : n < 255) :
    fieldFloat (BitVec.ofNat 32 n) = (((2 : ℝ) ^ ((n : ℤ) - 127) : ℝ) : EReal) :=
  have h := fieldBits ⟨n, by omega⟩
  ieee_normal _ n h.1 h.2.1 h.2.2 h0 h1

/-- The all-ones field is infinity. -/
theorem fieldFloat_top : fieldFloat (BitVec.ofNat 32 255) = ⊤ :=
  have h := fieldBits (255 : Fin 256)
  ieee_top (BitVec.ofNat 32 255 <<< 23) h.1 h.2.1 h.2.2

/-- One step of the search: set the bit `k` if the float of the new field is still at most `u`. -/
def step (u : EReal) (k f : BitVec 32) : BitVec 32 :=
  if Ideal.cmp .oge u (fieldFloat (f + k)) = 1#1 then f + k else f

/-- What the search knows when the answer is among the `d` fields from `n` on. -/
def Among (u : EReal) (d n : Nat) : Prop :=
  n + d ≤ 256 ∧ (n = 0 ∨ fieldFloat (BitVec.ofNat 32 n) ≤ u) ∧ (n + d = 256 ∨ u < fieldFloat (BitVec.ofNat 32 (n + d)))

theorem step_among (u : EReal) (k n : Nat) (hk : 0 < k) (h : Among u (2 * k) n) :
    ∃ n', step u (BitVec.ofNat 32 k) (BitVec.ofNat 32 n) = BitVec.ofNat 32 n' ∧ Among u k n' := by
  obtain ⟨h1, h2, h3⟩ := h
  have hadd : BitVec.ofNat 32 n + BitVec.ofNat 32 k = BitVec.ofNat 32 (n + k) := (BitVec.ofNat_add n k).symm
  unfold step
  rw [hadd]
  by_cases hc : fieldFloat (BitVec.ofNat 32 (n + k)) ≤ u
  · refine ⟨n + k, by simp [Ideal.cmp, hc], by omega, .inr hc, ?_⟩
    rw [show n + k + k = n + 2 * k by omega]; exact h3
  · refine ⟨n, by simp [Ideal.cmp, hc], by omega, h2, .inr (not_le.mp hc)⟩

/-- The whole search. -/
def search (u : EReal) : BitVec 32 :=
  step u 1#32 (step u 2#32 (step u 4#32 (step u 8#32 (step u 16#32 (step u 32#32 (step u 64#32 (step u 128#32 0#32)))))))

theorem search_among (u : EReal) : ∃ n, search u = BitVec.ofNat 32 n ∧ Among u 1 n := by
  obtain ⟨n, e1, h⟩ := step_among u 128 0 (by omega) ⟨by omega, .inl rfl, .inl rfl⟩
  obtain ⟨n, e2, h⟩ := step_among u 64 n (by omega) h
  obtain ⟨n, e3, h⟩ := step_among u 32 n (by omega) h
  obtain ⟨n, e4, h⟩ := step_among u 16 n (by omega) h
  obtain ⟨n, e5, h⟩ := step_among u 8 n (by omega) h
  obtain ⟨n, e6, h⟩ := step_among u 4 n (by omega) h
  obtain ⟨n, e7, h⟩ := step_among u 2 n (by omega) h
  obtain ⟨n, e8, h⟩ := step_among u 1 n (by omega) h
  refine ⟨n, ?_, h⟩
  unfold search
  rw [show (0#32) = BitVec.ofNat 32 0 from rfl]
  simp only [e1, e2, e3, e4, e5, e6, e7, e8]

/-- The search of a real between `2^-127` and `2^120`. -/
theorem search_real (r : ℝ) (h0 : (2 : ℝ) ^ (-127 : ℤ) ≤ r) (h1 : r < (2 : ℝ) ^ (120 : ℤ)) :
    ∃ n : Nat, search (r : EReal) = BitVec.ofNat 32 n ∧ n ≤ 246
      ∧ (2 : ℝ) ^ ((n : ℤ) - 127) ≤ r ∧ r < (2 : ℝ) ^ ((n : ℤ) - 126) := by
  obtain ⟨n, e, hn, ha, hb⟩ := search_among (r : EReal)
  have hle : n ≤ 254 := by
    by_contra hc
    obtain rfl : n = 255 := by omega
    rcases ha with ha | ha
    · omega
    · rw [fieldFloat_top] at ha
      exact absurd ha (not_le.mpr (EReal.coe_lt_top r))
  have hlow : (2 : ℝ) ^ ((n : ℤ) - 127) ≤ r := by
    by_cases hz : n = 0
    · subst hz
      exact h0
    · have ha := ha.resolve_left hz
      rw [fieldFloat_normal n (by omega) (by omega), EReal.coe_le_coe_iff] at ha
      exact ha
  have hle' : n ≤ 246 := by
    by_contra hc
    have : (2 : ℝ) ^ (120 : ℤ) ≤ (2 : ℝ) ^ ((n : ℤ) - 127) := zpow_le_zpow_right₀ (by norm_num) (by omega)
    linarith
  refine ⟨n, e, hle', hlow, ?_⟩
  rcases hb with hb | hb
  · omega
  · rw [fieldFloat_normal (n + 1) (by omega) (by omega), EReal.coe_lt_coe_iff] at hb
    have : ((n + 1 : Nat) : ℤ) - 127 = (n : ℤ) - 126 := by push_cast; ring
    rwa [this] at hb

/-- The floor of the logarithm of a number between two neighbouring powers of two. -/
theorem floor_log (r : ℝ) (k : ℤ) (h0 : (2 : ℝ) ^ k ≤ r) (h1 : r < (2 : ℝ) ^ (k + 1)) :
    ⌊Real.log r / Real.log 2⌋ = k := by
  have hr : 0 < r := lt_of_lt_of_le (zpow_pos (by norm_num) k) h0
  have hl : 0 < Real.log 2 := Real.log_pos (by norm_num)
  rw [Int.floor_eq_iff]
  constructor
  · rw [le_div_iff₀ hl, ← Real.log_zpow]
    exact Real.log_le_log (zpow_pos (by norm_num) k) h0
  · rw [div_lt_iff₀ hl]
    have := Real.log_lt_log hr h1
    rw [Real.log_zpow] at this
    push_cast at this
    exact this

end Cert.Exponent

end
-- ==== Proof.Scale.lean ====
/-
  One group's scale, as the kernel computes it and as the reference does.

  From the largest magnitude `a` of a group: the kernel takes the exponent of `a · (1/448)` by the binary search and builds
  `2^e` and `2^-e` from exponent fields; the reference takes `floor (log (a · (1/448)) / log 2) + 1` and powers of two.
  For `a` zero or between `7 · 2^-121` and the largest bf16 number the two agree.
-/
module

public import proofs.«01_k».proof.Proof.Exponent

@[expose] public section

noncomputable section

namespace Cert.Exponent

open Idealize.ShloMosaic

/-- The magnitudes the precondition allows. -/
def InRange (a : EReal) : Prop := a = 0 ∨ (Ideal.ofBits .f32 0x04600000#32 ≤ a ∧ a ≤ Ideal.ofBits .f32 0x7F7F0000#32)

/-- `a / 448`, by the float nearest `1/448`. -/
def quot (a : EReal) : EReal := a * Ideal.ofBits .f32 0x3B124925#32

/-- The kernel's exponent. -/
def kexp (a : EReal) : BitVec 32 :=
  Scalar.select (Ideal.cmp .oeq a (Ideal.ofBits .f32 0x00000000#32)) 0#32
    (Scalar.select (Ideal.cmp .ogt (quot a) (Ideal.ofBits .f32 0x00000000#32) &&& Ideal.cmp .olt (quot a) (Ideal.ofBits .f32 0x7F800000#32))
      (search (quot a) - 126#32) 0#32)

/-- The kernel's scale. -/
def kscale (a : EReal) : EReal := fieldFloat (kexp a + 127#32)

/-- The kernel's inverse of the scale. -/
def kinv (a : EReal) : EReal := fieldFloat (0#32 - kexp a + 127#32)

/-- The reference's exponent. -/
def rexp (a : EReal) : EReal :=
  Scalar.select (Ideal.cmp .oeq a (Ideal.ofBits .f32 0x00000000#32)) (Ideal.ofBits .f32 0x00000000#32)
    (Ideal.liftRound Int.floor (Ideal.div (Ideal.log (quot a)) (Ideal.log (Ideal.ofBits .f32 0x40000000#32)))
      + Ideal.ofBits .f32 0x3F800000#32)

/-- The reference's scale. -/
def scale (a : EReal) : EReal := Ideal.pow (Ideal.ofBits .f32 0x40000000#32) (rexp a)

/-- The reference's inverse of the scale. -/
def inv (a : EReal) : EReal := Ideal.pow (Ideal.ofBits .f32 0x40000000#32) (-rexp a)

theorem ofBits_two : Ideal.ofBits .f32 0x40000000#32 = ((2 : ℝ) : EReal) := by
  simp [Ideal.ofBits, Ideal.ieee, -EReal.coe_mul]; norm_num

theorem ofBits_448th : Ideal.ofBits .f32 0x3B124925#32 = ((9586981 / 2 ^ 32 : ℝ) : EReal) := by
  simp [Ideal.ofBits, Ideal.ieee, -EReal.coe_mul]; norm_num

theorem ofBits_low : Ideal.ofBits .f32 0x04600000#32 = ((7 / 2 ^ 121 : ℝ) : EReal) := by
  simp [Ideal.ofBits, Ideal.ieee, -EReal.coe_mul]; norm_num

theorem ofBits_high : Ideal.ofBits .f32 0x7F7F0000#32 = ((16711680 * 2 ^ 104 : ℝ) : EReal) := by
  simp [Ideal.ofBits, Ideal.ieee, -EReal.coe_mul]

theorem ofBits_inf : Ideal.ofBits .f32 0x7F800000#32 = ⊤ := by
  simp [Ideal.ofBits, Ideal.ieee]

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

/-- A group of zeros has the exponent zero in both. -/
theorem kexp_zero : kexp 0 = 0#32 := by simp [kexp, Scalar.select, Ideal.cmp, ofBits_zero]

theorem rexp_zero : rexp 0 = ((0 : ℝ) : EReal) := by simp [rexp, Scalar.select, Ideal.cmp, ofBits_zero]

/-- Both exponents of a nonzero group are the same integer `n - 126`. -/
theorem exps (a : EReal) (h : InRange a) (ha : a ≠ 0) :
    ∃ n : Nat, n ≤ 246 ∧ kexp a = BitVec.ofNat 32 n - 126#32 ∧ rexp a = ((((n : ℤ) - 126 : ℤ) : ℝ) : EReal) := by
  obtain ⟨h0, h1⟩ := h.resolve_left ha
  rw [ofBits_low] at h0
  rw [ofBits_high] at h1
  obtain ⟨x, rfl⟩ : ∃ x : ℝ, a = (x : EReal) := ⟨a.toReal, (EReal.coe_toReal
    (ne_top_of_le_ne_top (EReal.coe_ne_top _) h1) (ne_bot_of_le_ne_bot (EReal.coe_ne_bot _) h0)).symm⟩
  rw [EReal.coe_le_coe_iff] at h0 h1
  have hq : quot (x : EReal) = ((x * (9586981 / 2 ^ 32) : ℝ) : EReal) := by
    rw [quot, ofBits_448th, EReal.coe_mul]
  have hlow : (2 : ℝ) ^ (-127 : ℤ) ≤ x * (9586981 / 2 ^ 32) := by
    have : (7 / 2 ^ 121 : ℝ) * (9586981 / 2 ^ 32) ≤ x * (9586981 / 2 ^ 32) := by gcongr
    refine le_trans ?_ this
    norm_num
  have hhigh : x * (9586981 / 2 ^ 32) < (2 : ℝ) ^ (120 : ℤ) := by
    have : x * (9586981 / 2 ^ 32) ≤ (16711680 * 2 ^ 104 : ℝ) * (9586981 / 2 ^ 32) := by gcongr
    refine lt_of_le_of_lt this ?_
    norm_num
  obtain ⟨n, hs, hn2, hl, hu⟩ := search_real _ hlow hhigh
  have hpos : (0 : ℝ) < x * (9586981 / 2 ^ 32) := lt_of_lt_of_le (by positivity) hlow
  have hx : (x : EReal) ≠ 0 := ha
  refine ⟨n, hn2, ?_, ?_⟩
  · unfold kexp
    rw [hq, hs, ofBits_zero, ofBits_inf]
    have c1 : Ideal.cmp .oeq (x : EReal) 0 = 0#1 := by simp [Ideal.cmp, hx]
    have c2 : Ideal.cmp .ogt ((x * (9586981 / 2 ^ 32) : ℝ) : EReal) 0 = 1#1 := by
      have : (0 : EReal) < ((x * (9586981 / 2 ^ 32) : ℝ) : EReal) := by exact_mod_cast hpos
      simp only [Ideal.cmp, this]; rfl
    have c3 : Ideal.cmp .olt ((x * (9586981 / 2 ^ 32) : ℝ) : EReal) ⊤ = 1#1 := by
      simp only [Ideal.cmp, EReal.coe_lt_top]; rfl
    rw [c1, c2, c3]
    rfl
  · unfold rexp
    rw [hq, ofBits_zero, ofBits_two, ofBits_one]
    have c1 : Ideal.cmp .oeq (x : EReal) 0 = 0#1 := by simp [Ideal.cmp, hx]
    rw [c1, Ideal.log_coe, Ideal.log_coe, if_neg (not_le.mpr hpos), if_neg (by norm_num),
      Ideal.div_coe (Real.log_pos (by norm_num)).ne', ← EReal.coe_mul, mul_one_div, Ideal.liftRound_coe,
      floor_log _ ((n : ℤ) - 127) hl (by rw [show ((n : ℤ) - 127 + 1) = (n : ℤ) - 126 by ring]; exact hu)]
    simp only [Scalar.select]
    rw [if_neg (by decide), ← EReal.coe_add]
    congr 1
    push_cast
    ring

/-- The power of two of an integer. -/
theorem pow_two_int (k : ℤ) : Ideal.pow ((2 : ℝ) : EReal) (((k : ℤ) : ℝ) : EReal) = (((2 : ℝ) ^ k : ℝ) : EReal) := by
  rw [Ideal.pow_coe_coe]
  congr 1
  exact Real.rpow_intCast 2 k

/-- The scales agree. -/
theorem kscale_eq (a : EReal) (h : InRange a) : kscale a = scale a := by
  unfold kscale scale
  rw [ofBits_two]
  by_cases ha : a = 0
  · subst ha
    rw [kexp_zero, rexp_zero, show (0#32 + 127#32) = BitVec.ofNat 32 127 from rfl, fieldFloat_normal 127 (by omega) (by omega)]
    have := pow_two_int 0
    norm_num at this ⊢
    exact this.symm
  · obtain ⟨n, h2, hk, hr⟩ := exps a h ha
    rw [hk, hr, pow_two_int,
      show BitVec.ofNat 32 n - 126#32 + 127#32 = BitVec.ofNat 32 (n + 1) by
        apply BitVec.eq_of_toNat_eq; simp; omega,
      fieldFloat_normal (n + 1) (by omega) (by omega)]
    congr 2
    push_cast
    ring

/-- The inverses of the scales agree. -/
theorem kinv_eq (a : EReal) (h : InRange a) : kinv a = inv a := by
  unfold kinv inv
  rw [ofBits_two]
  by_cases ha : a = 0
  · subst ha
    rw [kexp_zero, rexp_zero, show (0#32 - 0#32 + 127#32) = BitVec.ofNat 32 127 from rfl, fieldFloat_normal 127 (by omega) (by omega)]
    have := pow_two_int 0
    norm_num at this ⊢
    exact this.symm
  · obtain ⟨n, h2, hk, hr⟩ := exps a h ha
    rw [hk, hr, ← EReal.coe_neg, show -(((n : ℤ) - 126 : ℤ) : ℝ) = ((126 - (n : ℤ) : ℤ) : ℝ) by push_cast; ring, pow_two_int,
      show 0#32 - (BitVec.ofNat 32 n - 126#32) + 127#32 = BitVec.ofNat 32 (253 - n) by
        apply BitVec.eq_of_toNat_eq; simp; omega,
      fieldFloat_normal (253 - n) (by omega) (by omega)]
    congr 2
    omega

end Cert.Exponent

end
-- ==== Proof.Spec.lean ====
/-
  What the kernel and the reference both compute, over the extended reals, entry by entry.

  A row of 2048 entries is cut into sixteen groups of 128. `amax` is the largest magnitude of a group, `code` the entry
  times the inverse of its group's scale, clipped to ±448, and `cell` one entry of the result: per group the product of
  the codes with a column of the weights, times the two scales, added up over the groups, plus the bias.
-/
module

public import proofs.«01_k».proof.Proof.Scale
public import Idealize.ShloMosaic.Lib.Pointwise

@[expose] public section

noncomputable section

namespace Cert.Spec

open Idealize.ShloMosaic
open Cert.Exponent

/-- Entry `k` of group `g`. -/
def entry (g : Fin 16) (k : Fin 128) : Fin 2048 := ⟨g.val * 128 + k.val, by omega⟩

/-- The group of an entry. -/
def group (c : Fin 2048) : Fin 16 := ⟨c.val / 128, by omega⟩

/-- The largest magnitude of a group. -/
def amax (row : Fin 2048 → EReal) (g : Fin 16) : EReal :=
  (Finset.univ : Finset (Fin 128)).fold max (Ideal.ofBits .f32 0xFF800000#32) fun k => max (row (entry g k)) (-row (entry g k))

/-- Clipping to ±448. -/
def clip (v : EReal) : EReal := min (Ideal.ofBits .f32 0x43E00000#32) (max (Ideal.ofBits .f32 0xC3E00000#32) v)

/-- The code of an entry. -/
def code (row : Fin 2048 → EReal) (c : Fin 2048) : EReal := clip (row c * inv (amax row (group c)))

/-- One entry of a product by groups: codes `q`, a column `w` of the weights, the scales `s` and `ws`, the bias `b`. -/
def combine (q w : Fin 2048 → EReal) (s ws : Fin 16 → EReal) (b : EReal) : EReal :=
  (∑ g : Fin 16, (∑ k : Fin 128, q (entry g k) * w (entry g k)) * (s g * ws g)) + b

/-- One entry of the result. -/
def cell (row w : Fin 2048 → EReal) (ws : Fin 16 → EReal) (b : EReal) : EReal :=
  combine (code row) w (fun g => scale (amax row g)) ws b

/-! ## The whole arrays -/

/-- Row `i` of the tokens, the first two axes taken as one. -/
def row (x : (⟨3, ![6, 3072, 2048]⟩ : Shape).Idx → EReal) (i : Fin 18432) : Fin 2048 → EReal := fun c =>
  x (ix3 (⟨i.val / 3072, by omega⟩ : Fin 6) (⟨i.val % 3072, by omega⟩ : Fin 3072) c)

/-- Column `j` of the weights. -/
def col (w : (⟨2, ![2048, 16384]⟩ : Shape).Idx → EReal) (j : Fin 16384) : Fin 2048 → EReal := fun a => w (ix2 a j)

/-- The scales of column `j` of the weights, one per 128 columns. -/
def wscale (s : (⟨2, ![16, 128]⟩ : Shape).Idx → EReal) (j : Fin 16384) : Fin 16 → EReal := fun g =>
  s (ix2 g (⟨j.val / 128, by omega⟩ : Fin 128))

/-- The result. -/
def result (x : (⟨3, ![6, 3072, 2048]⟩ : Shape).Idx → EReal) (w : (⟨2, ![2048, 16384]⟩ : Shape).Idx → EReal)
    (s : (⟨2, ![16, 128]⟩ : Shape).Idx → EReal) (b : (⟨1, ![16384]⟩ : Shape).Idx → EReal) :
    (⟨2, ![18432, 16384]⟩ : Shape).Idx → EReal := fun j =>
  cell (row x (j 0)) (col w (j 1)) (wscale s (j 1)) (b (ix1 (j 1)))

/-- The codes. -/
def codes (x : (⟨3, ![6, 3072, 2048]⟩ : Shape).Idx → EReal) : (⟨2, ![18432, 2048]⟩ : Shape).Idx → EReal := fun j =>
  code (row x (j 0)) (j 1)

/-- The scales. -/
def scales (x : (⟨3, ![6, 3072, 2048]⟩ : Shape).Idx → EReal) : (⟨2, ![18432, 16]⟩ : Shape).Idx → EReal := fun j =>
  scale (amax (row x (j 0)) (j 1))

/-- Every group's largest magnitude is in range. -/
def AllInRange (x : (⟨3, ![6, 3072, 2048]⟩ : Shape).Idx → EReal) : Prop :=
  ∀ (i : Fin 18432) (g : Fin 16), InRange (amax (row x i) g)

end Cert.Spec

end
-- ==== Proof.KernelHost.lean ====
/-
  What the kernel's region finds in its arrays: the tokens with their first two axes as one, the scales of the weights
  one per column, the bias as a row.
-/
module

public import proofs.«01_k».proof.Proof.Gen.KernelIdeal.Frame
public import proofs.«01_k».proof.Proof.Spec
public import Idealize.ShloMosaic.Lib.StableHlo.ReadAt

@[expose] public section

set_option maxRecDepth 16384

noncomputable section

namespace Cert.KernelIdeal.Run

open Cert.KernelIdeal Cert.KernelIdeal.Gen
open Cert.Spec
open Idealize.ShloMosaic Idealize.ShloMosaic.TcCoe Idealize.ShloMosaic.Tactic

variable (m : (ℓ : Loc nD τ sig) → Buf (Elt Ideal) ℓ)

theorem V_tokens (c : Dev nD) (i : Fin 18432) (k : Fin 2048) :
    V m c main_v2 (ix2 i k : S18432x2048.Idx) = row (m ((c.tc : Thread nD τ).loc main_arg0)) i k := by
  unfold row
  after_reads_at

theorem V_wscales (c : Dev nD) (g : Fin 16) (j : Fin 16384) :
    V m c main_v1 (ix2 g j : S16x16384.Idx) = wscale (m ((c.tc : Thread nD τ).loc main_arg2)) j g := by
  unfold wscale
  after_reads_at

theorem V_bias (c : Dev nD) (j : Fin 16384) :
    V m c main_v3 (ix2 (0 : Fin 1) j : S1x16384.Idx) = m ((c.tc : Thread nD τ).loc main_arg3) (ix1 j) := by
  after_reads_at

end Cert.KernelIdeal.Run

end
-- ==== Proof.BlockIdeal.lean ====
/-
  One block of the kernel over the extended reals, entry by entry.

  The largest magnitudes, scales and codes of a block of 512 tokens, as functions of the rows of the block.
-/
module

public import proofs.«01_k».proof.Proof.Block
public import proofs.«01_k».proof.Proof.Spec
public import Idealize.ShloMosaic.Lib.Pipeline.ValueKit.Tiles

@[expose] public section

set_option maxRecDepth 16384

noncomputable section

namespace Cert.KernelIdeal.Run

open Cert.KernelIdeal Cert.KernelIdeal.Gen
open Cert.Spec Cert.Exponent
open Idealize.ShloMosaic Idealize.ShloMosaic.TcCoe Idealize.ShloMosaic.Tactic

/-- A row of the block. -/
def rowB (x0 : Vec Ideal S512x2048 .bf16) (r : Fin 512) : Fin 2048 → EReal := fun c => x0 (ix2 r c)

/-- The column of the largest magnitudes over columns `o … o+127`. -/
theorem column_apply (x0 : Vec Ideal S512x2048 .bf16) (g : Fin 16) (o : Nat) (ho : o = g.val * 128)
    (h : S512x2048.Slices ![0, o] S512x128) (r : Fin 512) :
    shapeCast S512x1 (multiReduction .maximumf [1] S512 (absf (extractStridedSlice S512x128 ![0, o] (k0_pay3 x0) h)) 0xFF800000#32
      reduces_S512x128_S512 (.inl rfl) rfl) shapeCasts_S512_S512x1 (ix2 r (0 : Fin 1)) = amax (rowB x0 r) g := by
  subst ho
  pointwise [k0_pay3, amax, rowB, entry]
  rfl

/-- The same at any index of the column that the index `(r, g)` of the sixteen columns names. -/
theorem column_at (x0 : Vec Ideal S512x2048 .bf16) (r : Fin 512) (g : Fin 16) (i : S512x1.Idx) (n : Nat)
    (hn : ((ix2 r g : S512x16.Idx) 1).val = n) (h0 : (i 0).val = ((ix2 r g : S512x16.Idx) 0).val) (h1 : (i 1).val = 0)
    (o : Nat) (ho : o = n * 128) (h : S512x2048.Slices ![0, o] S512x128) :
    shapeCast S512x1 (multiReduction .maximumf [1] S512 (absf (extractStridedSlice S512x128 ![0, o] (k0_pay3 x0) h)) 0xFF800000#32
      reduces_S512x128_S512 (.inl rfl) rfl) shapeCasts_S512_S512x1 i = amax (rowB x0 r) g := by
  have hi : i = ix2 r (0 : Fin 1) := funext fun a => Fin.ext (by fin_cases a; exacts [h0, h1])
  rw [hi]
  exact column_apply x0 g o (by rw [ho, ← hn]; rfl) h r

/-- The largest magnitudes. -/
theorem amaxB_apply (x0 : Vec Ideal S512x2048 .bf16) (r : Fin 512) (g : Fin 16) :
    amaxB x0 (ix2 r g) = amax (rowB x0 r) g := by
  unfold amaxB k0_pay15
  concat_tiles i hi <;> exact column_at x0 r g i _ hi hi0 hi1 _ rfl _

/-! ## The scales -/

/-- One step of the binary search, on the whole block. -/
def stepB (u : FVec Ideal S512x16 .f32) (k : BitVec 32) (f : IVec S512x16 32) : IVec S512x16 32 :=
  select (cmpf .oge u (bitcastToFloat .f32 (shli (addi f (broadcast S512x16 k)) (broadcast S512x16 23#32)))) (addi f (broadcast S512x16 k)) f

theorem stepB_apply (u : FVec Ideal S512x16 .f32) (k : BitVec 32) (f : IVec S512x16 32) (j : S512x16.Idx) :
    stepB u k f j = step (u j) k (f j) := rfl

/-- The whole search. -/
def searchB (u : FVec Ideal S512x16 .f32) : IVec S512x16 32 :=
  stepB u 1#32 (stepB u 2#32 (stepB u 4#32 (stepB u 8#32 (stepB u 16#32 (stepB u 32#32 (stepB u 64#32 (stepB u 128#32
    (broadcast S512x16 0#32))))))))

theorem searchB_apply (u : FVec Ideal S512x16 .f32) (j : S512x16.Idx) : searchB u j = search (u j) := by
  simp only [searchB, search, stepB_apply]
  rfl

theorem quotB_apply (x0 : Vec Ideal S512x2048 .bf16) (r : Fin 512) (g : Fin 16) :
    quotB x0 (ix2 r g) = quot (amax (rowB x0 r) g) := by
  rw [← amaxB_apply]; rfl

/-- The exponent of the block is the search where the 448th is positive and finite. -/
theorem expB_eq (x0 : Vec Ideal S512x2048 .bf16) :
    expB x0 = select (andi (cmpf .ogt (quotB x0) (broadcast S512x16 (Scalar.ofBits .f32 0x00000000#32)))
      (cmpf .olt (quotB x0) (broadcast S512x16 (Scalar.ofBits .f32 0x7F800000#32))))
      (subi (searchB (quotB x0)) (broadcast S512x16 126#32)) (broadcast S512x16 0#32) := rfl

theorem exponent_apply (x0 : Vec Ideal S512x2048 .bf16) (r : Fin 512) (g : Fin 16) :
    k0_pay21 (expB x0) (zeroB x0) 0#32 (ix2 r g) = kexp (amax (rowB x0 r) g) := by
  have hs : searchB (quotB x0) (ix2 r g) = search (quot (amax (rowB x0 r) g)) := by rw [searchB_apply, quotB_apply]
  unfold k0_pay21 zeroB k0_pay20
  rw [expB_eq]
  show Scalar.select (Ideal.cmp .oeq (amaxB x0 (ix2 r g)) (Ideal.ofBits .f32 0x00000000#32)) 0#32
    (Scalar.select (Ideal.cmp .ogt (quotB x0 (ix2 r g)) (Ideal.ofBits .f32 0x00000000#32)
      &&& Ideal.cmp .olt (quotB x0 (ix2 r g)) (Ideal.ofBits .f32 0x7F800000#32))
      (searchB (quotB x0) (ix2 r g) - 126#32) 0#32) = _
  rw [hs, quotB_apply, amaxB_apply]
  rfl

/-- The scales. -/
theorem scalesB_apply (x0 : Vec Ideal S512x2048 .bf16) (r : Fin 512) (g : Fin 16) :
    scalesB x0 (ix2 r g) = kscale (amax (rowB x0 r) g) := by
  unfold kscale
  rw [← exponent_apply]
  rfl

/-- Their inverses. -/
theorem invB_apply (x0 : Vec Ideal S512x2048 .bf16) (r : Fin 512) (g : Fin 16) :
    invB x0 (ix2 r g) = kinv (amax (rowB x0 r) g) := by
  unfold kinv
  rw [← exponent_apply]
  rfl

/-- The codes. -/
theorem codesB_apply (x0 : Vec Ideal S512x2048 .bf16) (r : Fin 512) (c : Fin 2048) :
    codesB x0 (ix2 r c) = clip (rowB x0 r c * kinv (amax (rowB x0 r) (group c))) := by
  rw [← invB_apply]
  pointwise [codesB, k0_pay3, clip, rowB, group]

end Cert.KernelIdeal.Run

end
-- ==== Proof.BlockProduct.lean ====
/-
  One block of the result over the extended reals, entry by entry.

  The sixteen scaled products, added in order, are the sum over the groups.
-/
module

public import proofs.«01_k».proof.Proof.BlockIdeal

@[expose] public section

set_option maxRecDepth 16384

noncomputable section

namespace Cert.KernelIdeal.Run

open Cert.KernelIdeal Cert.KernelIdeal.Gen
open Cert.Spec Cert.Exponent
open Idealize.ShloMosaic Idealize.ShloMosaic.TcCoe Idealize.ShloMosaic.Tactic

variable (q : Vec Ideal S512x2048 .fp8e4m3) (w : Vec Ideal S2048x512 .fp8e4m3) (s : Vec Ideal S512x16 .f32)
  (ws : Vec Ideal S16x512 .f32)

/-- One group's scaled product. -/
def term (r c : Fin 512) (g : Fin 16) : EReal :=
  (∑ k : Fin 128, (q (ix2 r (entry g k)) : EReal) * w (ix2 (entry g k) c)) * ((s (ix2 r g) : EReal) * ws (ix2 g c))

/-- What `prodAt` of group `g` holds. -/
theorem prodAt_apply (o n : Nat) (g : Fin 16) (ho : o = g.val * 128) (hn : n = g.val) (h1) (h2) (h3) (h4) (r c : Fin 512) :
    prodAt q w s ws o n h1 h2 h3 h4 (ix2 r c) = term q w s ws r c g := by
  subst ho hn
  pointwise [prodAt, term, entry, View.ld]

/-- The sum over the groups. -/
theorem accB_apply (r c : Fin 512) : accB q w s ws (ix2 r c) = ∑ g : Fin 16, term q w s ws r c g := by
  have add_apply : ∀ a b : FVec Ideal S512x512 .f32, addf a b (ix2 r c) = (a (ix2 r c) : EReal) + b (ix2 r c) := fun _ _ => rfl
  unfold accB
  simp only [add_apply]
  rw [prodAt_apply q w s ws 0 0 0 rfl rfl, prodAt_apply q w s ws 128 1 1 rfl rfl,
    prodAt_apply q w s ws 256 2 2 rfl rfl, prodAt_apply q w s ws 384 3 3 rfl rfl,
    prodAt_apply q w s ws 512 4 4 rfl rfl, prodAt_apply q w s ws 640 5 5 rfl rfl,
    prodAt_apply q w s ws 768 6 6 rfl rfl, prodAt_apply q w s ws 896 7 7 rfl rfl,
    prodAt_apply q w s ws 1024 8 8 rfl rfl, prodAt_apply q w s ws 1152 9 9 rfl rfl,
    prodAt_apply q w s ws 1280 10 10 rfl rfl, prodAt_apply q w s ws 1408 11 11 rfl rfl,
    prodAt_apply q w s ws 1536 12 12 rfl rfl, prodAt_apply q w s ws 1664 13 13 rfl rfl,
    prodAt_apply q w s ws 1792 14 14 rfl rfl, prodAt_apply q w s ws 1920 15 15 rfl rfl]
  simp only [Fin.sum_univ_castSucc, Fin.sum_univ_zero, zero_add]
  rfl

/-- The block of the result. -/
theorem yB_apply (b : Vec Ideal S1x512 .f32) (r c : Fin 512) :
    yB q w s ws b (ix2 r c) = combine (fun a => q (ix2 r a)) (fun a => w (ix2 a c)) (fun g => s (ix2 r g)) (fun g => ws (ix2 g c))
      (b (ix2 (0 : Fin 1) c)) := by
  have h := accB_apply q w s ws r c
  pointwise [yB]
  rw [h]
  rfl

end Cert.KernelIdeal.Run

end
-- ==== Proof.KernelArrays.lean ====
/-
  The kernel's three result arrays over the extended reals, whole.

  The points of the grid are the pairs of 36 blocks of tokens and 32 blocks of columns; the result's block is written at
  every point, the codes' and the scales' at the last point of each row.
-/
module

public import proofs.«01_k».proof.Proof.KernelRun
public import proofs.«01_k».proof.Proof.KernelHost
public import proofs.«01_k».proof.Proof.BlockProduct
public import Idealize.ShloMosaic.Lib.Pipeline.ValueKit

@[expose] public section

set_option maxRecDepth 16384

noncomputable section

namespace Cert.KernelIdeal.Run

open Cert.KernelIdeal Cert.KernelIdeal.Gen
open Cert.Spec Cert.Exponent
open Idealize.ShloMosaic Idealize.ShloMosaic.TcCoe Idealize.ShloMosaic.Tactic
open Idealize.ShloMosaic.Pipeline (Dat Cfg Window)

variable (m : (ℓ : Loc nD τ sig) → Buf (Elt Ideal) ℓ)

/-! ## Where the blocks lie -/

theorem index0 : ∀ t : Fin cfg0.N, win0_0.index t = ![t.val / 32, 0] :=
  (by decide +kernel : ∀ t : Fin grid0.N, _)
theorem index1 : ∀ t : Fin cfg0.N, win0_1.index t = ![0, t.val % 32] :=
  (by decide +kernel : ∀ t : Fin grid0.N, _)
theorem index2 : ∀ t : Fin cfg0.N, win0_2.index t = ![0, t.val % 32] :=
  (by decide +kernel : ∀ t : Fin grid0.N, _)
theorem index3 : ∀ t : Fin cfg0.N, win0_3.index t = ![0, t.val % 32] :=
  (by decide +kernel : ∀ t : Fin grid0.N, _)
theorem index4 : ∀ t : Fin cfg0.N, win0_4.index t = ![t.val / 32, t.val % 32] :=
  (by decide +kernel : ∀ t : Fin grid0.N, _)
theorem index5 : ∀ t : Fin cfg0.N, win0_5.index t = ![t.val / 32, 0] :=
  (by decide +kernel : ∀ t : Fin grid0.N, _)
theorem index6 : ∀ t : Fin cfg0.N, win0_6.index t = ![t.val / 32, 0] :=
  (by decide +kernel : ∀ t : Fin grid0.N, _)

/-- The row of the tokens that row `r` of point `t`'s block is. -/
def rowAt (t : Fin cfg0.N) (r : Fin 512) : Fin 18432 :=
  ⟨t.val / 32 * 512 + r.val, by have h : t.val < 1152 := t.isLt; omega⟩

/-- The column of the weights that column `c` of point `t`'s block is. -/
def colAt (t : Fin cfg0.N) (c : Fin 512) : Fin 16384 := ⟨t.val % 32 * 512 + c.val, by omega⟩

/-! ## The blocks the body reads -/

theorem iblk0_apply (c : Dev nD) (t : Fin cfg0.N) (r : Fin 512) (k : Fin 2048) :
    iblk m c 0 t (ix2 r k : S512x2048.Idx) = row (m ((c.tc : Thread nD τ).loc main_arg0)) (rowAt t r) k := by
  rw [← V_tokens]
  blk_simp [iblk]
  refine congrArg (V m c main_v2) ?_
  blk_ext [index0, rowAt]

theorem rowB_iblk0 (c : Dev nD) (t : Fin cfg0.N) (r : Fin 512) :
    rowB (iblk m c 0 t) r = row (m ((c.tc : Thread nD τ).loc main_arg0)) (rowAt t r) :=
  funext fun k => iblk0_apply m c t r k

theorem iblk1_apply (c : Dev nD) (t : Fin cfg0.N) (a : Fin 2048) (j : Fin 512) :
    iblk m c 1 t (ix2 a j : S2048x512.Idx) = col (m ((c.tc : Thread nD τ).loc main_arg1)) (colAt t j) a := by
  unfold col
  rw [← V_main_arg1 m c]
  blk_simp [iblk]
  refine congrArg (V m c main_arg1) ?_
  blk_ext [index1, colAt]

theorem iblk2_apply (c : Dev nD) (t : Fin cfg0.N) (g : Fin 16) (j : Fin 512) :
    iblk m c 2 t (ix2 g j : S16x512.Idx) = wscale (m ((c.tc : Thread nD τ).loc main_arg2)) (colAt t j) g := by
  rw [← V_wscales]
  blk_simp [iblk]
  refine congrArg (V m c main_v1) ?_
  blk_ext [index2, colAt]

theorem iblk3_apply (c : Dev nD) (t : Fin cfg0.N) (j : Fin 512) :
    iblk m c 3 t (ix2 (0 : Fin 1) j : S1x512.Idx) = m ((c.tc : Thread nD τ).loc main_arg3) (ix1 (colAt t j)) := by
  rw [← V_bias m c]
  blk_simp [iblk]
  refine congrArg (V m c main_v3) ?_
  blk_ext [index3, colAt]

/-! ## The arrays -/

variable {m}

/-- The scales of a block, when every group is in range. -/
theorem scales_block (c : Dev nD) (hr : AllInRange (m ((c.tc : Thread nD τ).loc main_arg0))) (t : Fin cfg0.N) (r : Fin 512) (g : Fin 16) :
    scalesB (iblk m c 0 t) (ix2 r g) = scale (amax (row (m ((c.tc : Thread nD τ).loc main_arg0)) (rowAt t r)) g) := by
  rw [scalesB_apply, rowB_iblk0, kscale_eq _ (hr _ _)]

/-- The codes of a block. -/
theorem codes_block (c : Dev nD) (hr : AllInRange (m ((c.tc : Thread nD τ).loc main_arg0))) (t : Fin cfg0.N) (r : Fin 512) (k : Fin 2048) :
    codesB (iblk m c 0 t) (ix2 r k) = code (row (m ((c.tc : Thread nD τ).loc main_arg0)) (rowAt t r)) k := by
  rw [codesB_apply, rowB_iblk0, kinv_eq _ (hr _ _)]
  rfl

/-- The result of a block. -/
theorem result_block (c : Dev nD) (hr : AllInRange (m ((c.tc : Thread nD τ).loc main_arg0))) (t : Fin cfg0.N) (r j : Fin 512) :
    yB (codesB (iblk m c 0 t)) (iblk m c 1 t) (scalesB (iblk m c 0 t)) (iblk m c 2 t) (iblk m c 3 t) (ix2 r j)
      = cell (row (m ((c.tc : Thread nD τ).loc main_arg0)) (rowAt t r)) (col (m ((c.tc : Thread nD τ).loc main_arg1)) (colAt t j))
          (wscale (m ((c.tc : Thread nD τ).loc main_arg2)) (colAt t j)) (m ((c.tc : Thread nD τ).loc main_arg3) (ix1 (colAt t j))) := by
  rw [yB_apply, iblk3_apply]
  unfold cell
  congr 1
  · exact funext fun k => codes_block c hr t r k
  · exact funext fun a => iblk1_apply m c t a j
  · exact funext fun g => scales_block c hr t r g
  · exact funext fun g => iblk2_apply m c t g j

theorem final4 (c : Dev nD) (hr : AllInRange (m ((c.tc : Thread nD τ).loc main_arg0))) :
    (dats m 0 c).arrAt 4 cfg0.N = result (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ (by decide +kernel) fun t hf y => ?_
  blk_simp
  rw [after0_4]
  obtain ⟨r, j, rfl⟩ : ∃ (r : Fin 512) (j : Fin 512), y = (ix2 r j : S512x512.Idx) := ⟨y 0, y 1, eq_ix2 y⟩
  have he : (win0_4.blk t).view.emb (ix2 r j : S512x512.Idx) = (ix2 (rowAt t r) (colAt t j) : S18432x16384.Idx) := by
    blk_ext [index4, rowAt, colAt]
  refine (result_block c hr t r j).trans ?_
  exact (congrArg (result (m ((c.tc : Thread nD τ).loc main_arg0)) (m ((c.tc : Thread nD τ).loc main_arg1))
      (m ((c.tc : Thread nD τ).loc main_arg2)) (m ((c.tc : Thread nD τ).loc main_arg3))) he).symm

theorem final5 (c : Dev nD) (hr : AllInRange (m ((c.tc : Thread nD τ).loc main_arg0))) :
    (dats m 0 c).arrAt 5 cfg0.N = codes (m ((c.tc : Thread nD τ).loc main_arg0)) := by
  refine (dats m 0 c).arrAt_eq_of_covers 5 _ (by decide +kernel) fun t hf y => ?_
  blk_simp
  rw [after0_5]
  obtain ⟨r, k, rfl⟩ : ∃ (r : Fin 512) (k : Fin 2048), y = (ix2 r k : S512x2048.Idx) := ⟨y 0, y 1, eq_ix2 y⟩
  have he : (win0_5.blk t).view.emb (ix2 r k : S512x2048.Idx) = (ix2 (rowAt t r) k : S18432x2048.Idx) := by
    blk_ext [index5, rowAt]
  refine (codes_block c hr t r k).trans ?_
  exact (congrArg (codes (m ((c.tc : Thread nD τ).loc main_arg0))) he).symm

theorem final6 (c : Dev nD) (hr : AllInRange (m ((c.tc : Thread nD τ).loc main_arg0))) :
    (dats m 0 c).arrAt 6 cfg0.N = scales (m ((c.tc : Thread nD τ).loc main_arg0)) := by
  refine (dats m 0 c).arrAt_eq_of_covers 6 _ (by decide +kernel) fun t hf y => ?_
  blk_simp
  rw [after0_6]
  obtain ⟨r, g, rfl⟩ : ∃ (r : Fin 512) (g : Fin 16), y = (ix2 r g : S512x16.Idx) := ⟨y 0, y 1, eq_ix2 y⟩
  have he : (win0_6.blk t).view.emb (ix2 r g : S512x16.Idx) = (ix2 (rowAt t r) g : S18432x16.Idx) := by
    blk_ext [index6, rowAt]
  refine (scales_block c hr t r g).trans ?_
  exact (congrArg (scales (m ((c.tc : Thread nD τ).loc main_arg0))) he).symm

/-- THE RUN: the three results as functions of the arguments, the arguments unchanged. -/
theorem run_values (ρ : Dev nD → PrngReg) (hr : ∀ c : Dev nD, AllInRange (m ((c.tc : Thread nD τ).loc main_arg0))) :
    θ_run defs (onTc (τ := τ) (main (F := Ideal))) ⟨m, fun _ => 0, ρ⟩ fun r => ∀ c : Dev nD,
      r.2.mem ((c.tc : Thread nD τ).loc main_v4_0) = result (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_v4_1) = codes (m ((c.tc : Thread nD τ).loc main_arg0))
      ∧ r.2.mem ((c.tc : Thread nD τ).loc main_v4_2) = scales (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1.out_eq c 4).trans (final4 c (hr c)), (h.1.out_eq c 5).trans (final5 c (hr c)),
    (h.1.out_eq c 6).trans (final6 c (hr c)), h.2 c⟩) (θ_run_and (run_main m ρ) (unchanged m ρ))

end Cert.KernelIdeal.Run

end
-- ==== Proof.ReferenceHost.lean ====
/-
  What the reference's host operations compute: the largest magnitudes, the scales and the clipped quotients, the scales
  of the weights one per column, the bias as a row.
-/
module

public import proofs.«01_k».proof.Proof.Gen.ReferenceIdeal.Value
public import proofs.«01_k».proof.Proof.Spec
public import Idealize.ShloMosaic.Lib.StableHlo.ReadAt

@[expose] public section

set_option maxRecDepth 16384

noncomputable section

namespace Cert.ReferenceIdeal.Run

open Cert.ReferenceIdeal Cert.ReferenceIdeal.Gen
open Cert.Spec Cert.Exponent
open Idealize.ShloMosaic Idealize.ShloMosaic.TcCoe Idealize.ShloMosaic.Tactic

variable (m : (ℓ : Loc nD τ sig) → Buf (Elt Ideal) ℓ)

theorem V_wscales (c : Dev nD) (g : Fin 16) (j : Fin 16384) :
    V m c main_v27 (ix2 g j : S16x16384.Idx) = wscale (m ((c.tc : Thread nD τ).loc main_arg2)) j g := by
  unfold wscale
  after_reads_at

theorem V_bias (c : Dev nD) (j : Fin 16384) :
    V m c main_v28 (ix2 (0 : Fin 1) j : S1x16384.Idx) = m ((c.tc : Thread nD τ).loc main_arg3) (ix1 j) := by
  after_reads_at

theorem V_tokens (c : Dev nD) (i : Fin 18432) (g : Fin 16) (k : Fin 128) :
    V m c main_v1 (ix3 i g k : S18432x16x128.Idx) = row (m ((c.tc : Thread nD τ).loc main_arg0)) i (entry g k) := by
  unfold row entry
  after_reads_at

theorem V_amax (c : Dev nD) (i : Fin 18432) (g : Fin 16) :
    V m c main_v3 (ix2 i g : S18432x16.Idx) = amax (row (m ((c.tc : Thread nD τ).loc main_arg0)) i) g := by
  unfold amax row entry
  after_reads_at

  rfl

/-! ## The scales -/

/-- A number in every place of the 18432 × 16 array. -/
def splat (b : BitVec 32) : FVec Ideal S18432x16 .f32 := broadcastInDim S18432x16 ![] bcast_S_S18432x16 (constant S_ .f32 b)

/-- The exponents, from the largest magnitudes. -/
def expHost (a : FVec Ideal S18432x16 .f32) : FVec Ideal S18432x16 .f32 :=
  select (cmpf .oeq a (splat 0x00000000#32)) (broadcastInDim S18432x16 ![] bcast_S_S18432x16 (id (constant S_ .f32 0x00000000#32)))
    (addf (Host.floor (Host.divf (Host.log (mulf a (splat 0x3B124925#32)))
        (broadcastInDim S18432x16 ![] bcast_S_S18432x16 (id (Host.log (constant S_ .f32 0x40000000#32)))))) (splat 0x3F800000#32))

theorem splat_apply (b : BitVec 32) (j : S18432x16.Idx) : splat b j = Ideal.ofBits .f32 b := rfl

theorem expHost_apply (a : FVec Ideal S18432x16 .f32) (j : S18432x16.Idx) : expHost a j = rexp (a j) := rfl

/-- The exponents' array. -/
theorem V_exps (c : Dev nD) : V m c main_v16 = expHost (V m c main_v3) := by
  unfold expHost splat
  after_reads_simp
  simp -implicitDefEqProofs only [StableHlo.TRef.toBuf, StableHlo.TRef.ofBuf, cast_cast, cast_eq]

theorem V_exps_apply (c : Dev nD) (i : Fin 18432) (g : Fin 16) :
    V m c main_v16 (ix2 i g : S18432x16.Idx) = rexp (amax (row (m ((c.tc : Thread nD τ).loc main_arg0)) i) g) := by
  rw [← V_amax m c, V_exps]
  exact expHost_apply _ _

/-- The powers of two of the exponents. -/
def powHost (e : FVec Ideal S18432x16 .f32) : FVec Ideal S18432x16 .f32 := Host.powf (splat 0x40000000#32) e

theorem powHost_apply (e : FVec Ideal S18432x16 .f32) (j : S18432x16.Idx) :
    powHost e j = Ideal.pow (Ideal.ofBits .f32 0x40000000#32) (e j) := rfl

/-- The scales' array. -/
theorem V_pow (c : Dev nD) : V m c main_v18 = powHost (V m c main_v16) := by
  unfold powHost splat
  after_reads_simp

theorem V_scales (c : Dev nD) (i : Fin 18432) (g : Fin 16) :
    V m c main_v18 (ix2 i g : S18432x16.Idx) = scale (amax (row (m ((c.tc : Thread nD τ).loc main_arg0)) i) g) := by
  rw [V_pow]
  refine (powHost_apply _ _).trans ?_
  unfold scale
  rw [← V_exps_apply m c]

/-! ## The clipped quotients -/

/-- The inverses of the scales, from the exponents. -/
def invHost (e : FVec Ideal S18432x16 .f32) : FVec Ideal S18432x16 .f32 := Host.powf (splat 0x40000000#32) (Host.negf e)

theorem invHost_apply (e : FVec Ideal S18432x16 .f32) (j : S18432x16.Idx) :
    invHost e j = Ideal.pow (Ideal.ofBits .f32 0x40000000#32) (-(e j : EReal)) := rfl

/-- The clipped quotients, from the tokens by group and the inverses of the scales. -/
def clipHost (x : FVec Ideal S18432x16x128 .f32) (v : FVec Ideal S18432x16 .f32) : FVec Ideal S18432x16x128 .f32 :=
  minimumf (broadcastInDim S18432x16x128 ![] bcast_S_S18432x16x128 (id (constant S_ .f32 0x43E00000#32)))
    (maximumf (broadcastInDim S18432x16x128 ![] bcast_S_S18432x16x128 (id (constant S_ .f32 0xC3E00000#32)))
      (mulf x (broadcastInDim S18432x16x128 ![0, 1, 2] bcast_S18432x16x1_S18432x16x128_0_1_2
        (broadcastInDim S18432x16x1 ![0, 1] bcast_S18432x16_S18432x16x1_0_1 v))))

theorem clipHost_apply (x : FVec Ideal S18432x16x128 .f32) (v : FVec Ideal S18432x16 .f32) (i : Fin 18432) (g : Fin 16) (k : Fin 128) :
    clipHost x v (ix3 i g k) = clip ((x (ix3 i g k) : EReal) * v (ix2 i g)) := by
  pointwise [clipHost, clip, id]

/-- The clipped quotients' array. -/
theorem V_clip (c : Dev nD) : V m c main_v25 = clipHost (V m c main_v1) (invHost (V m c main_v16)) := by
  unfold clipHost invHost splat
  after_reads_simp
  simp -implicitDefEqProofs only [StableHlo.TRef.toBuf, StableHlo.TRef.ofBuf, cast_cast, cast_eq]

theorem V_clipped (c : Dev nD) (i : Fin 18432) (g : Fin 16) (k : Fin 128) :
    V m c main_v25 (ix3 i g k : S18432x16x128.Idx)
      = clip (row (m ((c.tc : Thread nD τ).loc main_arg0)) i (entry g k) * Exponent.inv (amax (row (m ((c.tc : Thread nD τ).loc main_arg0)) i) g)) := by
  rw [V_clip]
  refine (clipHost_apply _ _ i g k).trans ?_
  rw [invHost_apply]
  unfold Exponent.inv
  rw [← V_exps_apply m c, ← V_tokens m c]

end Cert.ReferenceIdeal.Run

end
-- ==== Proof.ReferenceProduct.lean ====
/-
  What the reference's pallas_call computes from whole arrays, entry by entry.

  The products of the groups of 128 are scaled and added up over the groups; the codes are the clipped quotients, the
  groups laid side by side.
-/
module

public import proofs.«01_k».proof.Proof.Gen.ReferenceIdeal.Value
public import proofs.«01_k».proof.Proof.Spec

@[expose] public section

set_option maxRecDepth 16384

noncomputable section

namespace Cert.ReferenceIdeal.Run

open Cert.ReferenceIdeal Cert.ReferenceIdeal.Gen
open Cert.Spec Cert.Exponent
open Idealize.ShloMosaic Idealize.ShloMosaic.TcCoe Idealize.ShloMosaic.Tactic

/-- The product. -/
theorem product_apply (v : Vec Ideal S18432x16x128 .f32) (s : Vec Ideal S18432x16 .f32) (w : Vec Ideal S2048x16384 .fp8e4m3)
    (ws : Vec Ideal S16x16384 .f32) (b : Vec Ideal S1x16384 .f32) (i : Fin 18432) (j : Fin 16384) :
    k0_pay3 v s w ws b (ix2 i j)
      = (∑ g : Fin 16, (∑ k : Fin 128, (v (ix3 i g k) : EReal) * w (ix2 (entry g k) j)) * ((s (ix2 i g) : EReal) * ws (ix2 g j)))
        + b (ix2 (0 : Fin 1) j) := by
  pointwise [k0_pay3, k0_pay1, k0_pay2, entry]

/-- The codes. -/
theorem codes_apply (v : Vec Ideal S18432x16x128 .f32) (i : Fin 18432) (a : Fin 2048) :
    k0_pay4 v (ix2 i a) = v (ix3 i (group a) (⟨a.val % 128, by omega⟩ : Fin 128)) := by
  pointwise [k0_pay4, k0_pay1, group]

/-- The scales. -/
theorem scales_apply (v : Vec Ideal S18432x16 .f32) (i : Fin 18432) (g : Fin 16) : k0_pay2 v (ix2 i g) = v (ix2 i g) := by
  pointwise [k0_pay2]

end Cert.ReferenceIdeal.Run

end
-- ==== Proof.ReferenceArrays.lean ====
/-
  The reference's three result arrays over the extended reals, whole.

  Its one pallas_call runs once, on whole arrays: it takes the clipped quotients as codes, multiplies them by the weights
  group by group, scales, and adds up over the groups.
-/
module

public import proofs.«01_k».proof.Proof.ReferenceHost
public import proofs.«01_k».proof.Proof.ReferenceProduct
public import Idealize.ShloMosaic.Lib.Pipeline.ValueKit

@[expose] public section

set_option maxRecDepth 16384

noncomputable section

namespace Cert.ReferenceIdeal.Run

open Cert.ReferenceIdeal Cert.ReferenceIdeal.Gen
open Cert.Spec Cert.Exponent
open Idealize.ShloMosaic Idealize.ShloMosaic.TcCoe Idealize.ShloMosaic.Tactic
open Idealize.ShloMosaic.Pipeline (Dat Cfg Window)

variable (m : (ℓ : Loc nD τ sig) → Buf (Elt Ideal) ℓ)

/-! ## The blocks are the arrays -/

theorem index0 : ∀ t : Fin cfg0.N, win0_0.index t = ![0, 0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)

/-- A block of window 0 of any array is the array. -/
theorem read0_apply (c : Dev nD) (v : Buf (Elt Ideal) ((c.tc : Thread nD τ).loc main_v25)) (t : Fin cfg0.N) (i : Fin 18432) (g : Fin 16)
    (k : Fin 128) : (win0_0.blk t).view.read (Elt Ideal) v (ix3 i g k : S18432x16x128.Idx) = v (ix3 i g k : S18432x16x128.Idx) := by
  blk_simp
  refine congrArg v ?_
  blk_ext [index0]

/-- A block of window 1 of any array is the array. -/
theorem read1_apply (c : Dev nD) (v : Buf (Elt Ideal) ((c.tc : Thread nD τ).loc main_v18)) (t : Fin cfg0.N) (i : Fin 18432) (g : Fin 16) :
    (win0_1.blk t).view.read (Elt Ideal) v (ix2 i g : S18432x16.Idx) = v (ix2 i g : S18432x16.Idx) := by
  blk_simp
  refine congrArg v ?_
  blk_ext [index1]

theorem iblk0_apply (c : Dev nD) (t : Fin cfg0.N) (i : Fin 18432) (g : Fin 16) (k : Fin 128) :
    iblk m c 0 t (ix3 i g k : S18432x16x128.Idx)
      = clip (row (m ((c.tc : Thread nD τ).loc main_arg0)) i (entry g k) * Exponent.inv (amax (row (m ((c.tc : Thread nD τ).loc main_arg0)) i) g)) :=
  (read0_apply c (V m c main_v25) t i g k).trans (V_clipped m c i g k)

theorem iblk1_apply (c : Dev nD) (t : Fin cfg0.N) (i : Fin 18432) (g : Fin 16) :
    iblk m c 1 t (ix2 i g : S18432x16.Idx) = scale (amax (row (m ((c.tc : Thread nD τ).loc main_arg0)) i) g) :=
  (read1_apply c (V m c main_v18) t i g).trans (V_scales m c i g)

theorem iblk2_apply (c : Dev nD) (t : Fin cfg0.N) (a : Fin 2048) (j : Fin 16384) :
    iblk m c 2 t (ix2 a j : S2048x16384.Idx) = col (m ((c.tc : Thread nD τ).loc main_arg1)) j a := by
  unfold col
  rw [← V_main_arg1 m c]
  blk_simp [iblk]
  refine congrArg (V m c main_arg1) ?_
  blk_ext [index2]

theorem iblk3_apply (c : Dev nD) (t : Fin cfg0.N) (g : Fin 16) (j : Fin 16384) :
    iblk m c 3 t (ix2 g j : S16x16384.Idx) = wscale (m ((c.tc : Thread nD τ).loc main_arg2)) j g := by
  rw [← V_wscales m c]
  blk_simp [iblk]
  refine congrArg (V m c main_v27) ?_
  blk_ext [index3]

theorem iblk4_apply (c : Dev nD) (t : Fin cfg0.N) (j : Fin 16384) :
    iblk m c 4 t (ix2 (0 : Fin 1) j : S1x16384.Idx) = m ((c.tc : Thread nD τ).loc main_arg3) (ix1 j) := by
  rw [← V_bias m c]
  blk_simp [iblk]
  refine congrArg (V m c main_v28) ?_
  blk_ext [index4]

/-! ## The arrays -/

theorem scales_block (c : Dev nD) (t : Fin cfg0.N) (i : Fin 18432) (g : Fin 16) :
    out0_7 (iblk m c 0 t) (iblk m c 1 t) (iblk m c 2 t) (iblk m c 3 t) (iblk m c 4 t) (ix2 i g)
      = scale (amax (row (m ((c.tc : Thread nD τ).loc main_arg0)) i) g) := by
  unfold out0_7
  rw [View.canon_unit_zero (S := S18432x16) (by decide), View.ld_unit_zero (S := S18432x16) (by decide)]
  exact (scales_apply _ i g).trans (iblk1_apply m c t i g)

theorem codes_block (c : Dev nD) (t : Fin cfg0.N) (i : Fin 18432) (a : Fin 2048) :
    out0_6 (iblk m c 0 t) (iblk m c 1 t) (iblk m c 2 t) (iblk m c 3 t) (iblk m c 4 t) (ix2 i a)
      = code (row (m ((c.tc : Thread nD τ).loc main_arg0)) i) a := by
  have ha : entry (group a) (⟨a.val % 128, by omega⟩ : Fin 128) = a := Fin.ext (by simp only [entry, group]; omega)
  unfold out0_6
  rw [View.canon_unit_zero (S := S18432x2048) (by decide), View.ld_unit_zero (S := S18432x16x128) (by decide)]
  refine (codes_apply _ i a).trans ((iblk0_apply m c t i (group a) _).trans ?_)
  rw [ha]
  rfl

theorem result_block (c : Dev nD) (t : Fin cfg0.N) (i : Fin 18432) (j : Fin 16384) :
    out0_5 (iblk m c 0 t) (iblk m c 1 t) (iblk m c 2 t) (iblk m c 3 t) (iblk m c 4 t) (ix2 i j)
      = cell (row (m ((c.tc : Thread nD τ).loc main_arg0)) i) (col (m ((c.tc : Thread nD τ).loc main_arg1)) j)
          (wscale (m ((c.tc : Thread nD τ).loc main_arg2)) j) (m ((c.tc : Thread nD τ).loc main_arg3) (ix1 j)) := by
  have hg : ∀ g k, group (entry g k) = g := fun g k => Fin.ext (by simp only [entry, group]; omega)
  unfold out0_5
  rw [View.canon_unit_zero (S := S18432x16384) (by decide), View.ld_unit_zero (S := S18432x16x128) (by decide),
    View.ld_unit_zero (S := S18432x16) (by decide), View.ld_unit_zero (S := S2048x16384) (by decide),
    View.ld_unit_zero (S := S16x16384) (by decide), View.ld_unit_zero (S := S1x16384) (by decide)]
  refine (product_apply _ _ _ _ _ i j).trans ?_
  unfold cell combine
  refine congrArg₂ (· + ·) (Finset.sum_congr rfl fun g _ => ?_) (iblk4_apply m c t j)
  refine congrArg₂ (· * ·) (Finset.sum_congr rfl fun k _ => congrArg₂ (· * ·) ?_ (iblk2_apply m c t _ j))
    (congrArg₂ (· * ·) (iblk1_apply m c t i g) (iblk3_apply m c t g j))
  refine (iblk0_apply m c t i g k).trans ?_
  unfold code
  rw [hg]

theorem final5 (c : Dev nD) :
    (dats m 0 c).arrAt 5 cfg0.N = result (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 5 _ (by decide +kernel) fun t hf y => ?_
  blk_simp
  rw [after0_5]
  obtain ⟨i, j, rfl⟩ : ∃ (i : Fin 18432) (j : Fin 16384), y = (ix2 i j : S18432x16384.Idx) := ⟨y 0, y 1, eq_ix2 y⟩
  have he : (win0_5.blk t).view.emb (ix2 i j : S18432x16384.Idx) = (ix2 i j : S18432x16384.Idx) := by
    blk_ext [index5]
  refine (result_block m c t i j).trans ?_
  exact (congrArg (result (m ((c.tc : Thread nD τ).loc main_arg0)) (m ((c.tc : Thread nD τ).loc main_arg1))
      (m ((c.tc : Thread nD τ).loc main_arg2)) (m ((c.tc : Thread nD τ).loc main_arg3))) he).symm

theorem final6 (c : Dev nD) : (dats m 0 c).arrAt 6 cfg0.N = codes (m ((c.tc : Thread nD τ).loc main_arg0)) := by
  refine (dats m 0 c).arrAt_eq_of_covers 6 _ (by decide +kernel) fun t hf y => ?_
  blk_simp
  rw [after0_6]
  obtain ⟨i, a, rfl⟩ : ∃ (i : Fin 18432) (a : Fin 2048), y = (ix2 i a : S18432x2048.Idx) := ⟨y 0, y 1, eq_ix2 y⟩
  have he : (win0_6.blk t).view.emb (ix2 i a : S18432x2048.Idx) = (ix2 i a : S18432x2048.Idx) := by
    blk_ext [index6]
  refine (codes_block m c t i a).trans ?_
  exact (congrArg (codes (m ((c.tc : Thread nD τ).loc main_arg0))) he).symm

theorem final7 (c : Dev nD) : (dats m 0 c).arrAt 7 cfg0.N = scales (m ((c.tc : Thread nD τ).loc main_arg0)) := by
  refine (dats m 0 c).arrAt_eq_of_covers 7 _ (by decide +kernel) fun t hf y => ?_
  blk_simp
  rw [after0_7]
  obtain ⟨i, g, rfl⟩ : ∃ (i : Fin 18432) (g : Fin 16), y = (ix2 i g : S18432x16.Idx) := ⟨y 0, y 1, eq_ix2 y⟩
  have he : (win0_7.blk t).view.emb (ix2 i g : S18432x16.Idx) = (ix2 i g : S18432x16.Idx) := by
    blk_ext [index7]
  refine (scales_block m c t i g).trans ?_
  exact (congrArg (scales (m ((c.tc : Thread nD τ).loc main_arg0))) he).symm

/-- THE RUN: the three results as functions of the arguments, the arguments unchanged. -/
theorem run_values (ρ : Dev nD → PrngReg) :
    θ_run defs (onTc (τ := τ) (main (F := Ideal))) ⟨m, fun _ => 0, ρ⟩ fun r => ∀ c : Dev nD,
      r.2.mem ((c.tc : Thread nD τ).loc main_v29_0) = result (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_v29_1) = codes (m ((c.tc : Thread nD τ).loc main_arg0))
      ∧ r.2.mem ((c.tc : Thread nD τ).loc main_v29_2) = scales (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (final5 m c), (h c).2.1.trans (final6 m c),
    (h c).2.2.1.trans (final7 m c), (h c).2.2.2⟩) (Value.run_blocks m ρ)

end Cert.ReferenceIdeal.Run

end
-- ==== Proof.Precondition.lean ====
/-
  The precondition in words: where `in_range` is all ones, every group's largest magnitude is in range.
-/
module

public import proofs.«01_k».proof.Defs
public import proofs.«01_k».proof.Proof.Gen.Pre_in_range
public import proofs.«01_k».proof.Proof.Spec
public import Idealize.ShloMosaic.Lib.StableHlo.ReadAt

@[expose] public section

set_option maxRecDepth 16384

noncomputable section

namespace Cert.Pre_in_range

open Cert.Spec Cert.Exponent
open Idealize.ShloMosaic Idealize.ShloMosaic.TcCoe Idealize.ShloMosaic.Tactic

/-- The test of one number. -/
def test (a : EReal) : BitVec 1 :=
  Ideal.cmp .oeq a (Ideal.ofBits .f32 0x00000000#32)
    ||| (Ideal.cmp .oge a (Ideal.ofBits .f32 0x04600000#32) &&& Ideal.cmp .ole a (Ideal.ofBits .f32 0x7F7F0000#32))

/-- It is one on numbers in range only. -/
theorem inRange_of_test (a : EReal) (h : test a = 1#1) : InRange a := by
  unfold test at h
  rw [ofBits_zero] at h
  unfold InRange
  by_cases h0 : a = 0
  · exact .inl h0
  by_cases h1 : Ideal.ofBits .f32 0x04600000#32 ≤ a
  · by_cases h2 : a ≤ Ideal.ofBits .f32 0x7F7F0000#32
    · exact .inr ⟨h1, h2⟩
    · simp [Ideal.cmp, h0, h2] at h
  · simp [Ideal.cmp, h0, h1] at h

variable [Facts]

/-- The largest magnitudes, as the precondition takes them. -/
def amaxHost (x : FVec Ideal S6x3072x2048 .bf16) : FVec Ideal S18432x16 .f32 :=
  Host.reduce FloatOps.maximumf (Host.absf (shapeCast S18432x16x128 (extf .f32 x Facts.bitsLt_bf16_f32) Facts.shapeCasts_S6x3072x2048_S18432x16x128))
    (constant S_ .f32 0xFF800000#32) Facts.reducesTo_S18432x16x128_S18432x16_d2 Facts.h_S_

theorem amaxHost_apply (x : FVec Ideal S6x3072x2048 .bf16) (i : Fin 18432) (g : Fin 16) :
    amaxHost x (ix2 i g) = amax (row x i) g := by
  unfold amax row entry
  pointwise [amaxHost]
  rfl

/-- The tests of all the groups. -/
def testHost (a : FVec Ideal S18432x16 .f32) : IVec S18432x16 1 :=
  ori (cmpf .oeq a (broadcastInDim S18432x16 ![] Facts.bcast_S_S18432x16 (constant S_ .f32 0x00000000#32)))
    (andi (cmpf .oge a (broadcastInDim S18432x16 ![] Facts.bcast_S_S18432x16 (constant S_ .f32 0x04600000#32)))
      (cmpf .ole a (broadcastInDim S18432x16 ![] Facts.bcast_S_S18432x16 (constant S_ .f32 0x7F7F0000#32))))

theorem testHost_apply (a : FVec Ideal S18432x16 .f32) (j : S18432x16.Idx) : testHost a j = test (a j) := rfl

theorem fn_eq (x : FVec Ideal S6x3072x2048 .bf16) (w : FVec Ideal S2048x16384 .fp8e4m3) (s : FVec Ideal S16x128 .f32)
    (b : FVec Ideal S16384 .f32) : fn (F := Ideal) x w s b = testHost (amaxHost x) := by
  unfold fn testHost amaxHost
  rfl

/-- All ones: all in range. -/
theorem allInRange (x : FVec Ideal S6x3072x2048 .bf16) (w : FVec Ideal S2048x16384 .fp8e4m3) (s : FVec Ideal S16x128 .f32)
    (b : FVec Ideal S16384 .f32) (h : fn (F := Ideal) x w s b = fun _ => 1#1) : AllInRange x := by
  intro i g
  refine inRange_of_test _ ?_
  rw [← amaxHost_apply]
  rw [fn_eq] at h
  exact (testHost_apply _ _).symm.trans (congrFun h _)

end Cert.Pre_in_range

end
-- ==== Proof.SameResults.lean ====
/-
  Kernel and reference leave the same three arrays: each leaves `Spec.result`, `Spec.codes` and `Spec.scales` of its
  arguments, and the arguments are the same.
-/
module

public import proofs.«01_k».proof.Proof.KernelArrays
public import proofs.«01_k».proof.Proof.ReferenceArrays
public import proofs.«01_k».proof.Proof.Precondition

@[expose] public section

noncomputable section

namespace Cert.Proof

open Idealize.ShloMosaic Idealize.SL.Sem

/-- The algebraic claim, of the programs whose side conditions the generated modules prove. -/
theorem same_results : algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hargs
  have hr : ∀ c : Dev Cert.KernelIdeal.nD, Cert.Spec.AllInRange (m ((c.tc : Thread Cert.KernelIdeal.nD Cert.KernelIdeal.τ).loc Cert.KernelIdeal.main_arg0)) :=
    fun c => Cert.Pre_in_range.allInRange _ _ _ _ (hpre c)
  refine ⟨_, _, _, Cert.KernelIdeal.Run.run_values g hr, ?_⟩
  refine (θ_run _ _ _).mono (fun r h c => ?_) (Cert.ReferenceIdeal.Run.run_values m' g')
  obtain ⟨h0, h1, h2, hk⟩ := h c
  obtain ⟨a0, a1, a2, a3⟩ := hargs c
  rw [a0, a1, a2, a3] at h0
  rw [a0] at h1 h2
  exact ⟨h0, h1, h2, hk⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.SameProgram
public import proofs.«01_k».proof.Proof.SameResults
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  fun m g _ => Cert.Kernel.Run.frame m g, fun m g _ => Cert.KernelIdeal.Run.frame m g, fun m g _ => Cert.KernelIdeal.Run.frame m g,
  fun m g _ => Cert.ReferenceIdeal.Gen.frame m g, fun m g _ => Cert.ReferenceIdeal.Gen.frame m g, trivial, same_results⟩

end Cert.Proof

end
